-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v90_4) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩
abbrev S1x1 : Shape := ⟨2, ![1, 1]⟩
abbrev S120x4 : Shape := ⟨2, ![120, 4]⟩
abbrev S5120x4 : Shape := ⟨2, ![5120, 4]⟩
abbrev S4x5120 : Shape := ⟨2, ![4, 5120]⟩
abbrev S1x5120 : Shape := ⟨2, ![1, 5120]⟩
abbrev S512x512 : Shape := ⟨2, ![512, 512]⟩
abbrev S1x512 : Shape := ⟨2, ![1, 512]⟩
abbrev S16x16 : Shape := ⟨2, ![16, 16]⟩
abbrev S16x1 : Shape := ⟨2, ![16, 1]⟩
abbrev S1x16 : Shape := ⟨2, ![1, 16]⟩
abbrev S512x4 : Shape := ⟨2, ![512, 4]⟩
abbrev S512x1 : Shape := ⟨2, ![512, 1]⟩
abbrev S4x512 : Shape := ⟨2, ![4, 512]⟩
abbrev S1x16x16 : Shape := ⟨3, ![1, 16, 16]⟩
abbrev S1x1x1 : Shape := ⟨3, ![1, 1, 1]⟩
abbrev S16x512 : Shape := ⟨2, ![16, 512]⟩
abbrev S1x5000 : Shape := ⟨2, ![1, 5000]⟩

abbrev nBuf : Space → Nat
  | .hbm => 71
  | .vmem => 4
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000, .i32⟩
  | .hbm, ⟨4, _⟩ => ⟨S5000, .f32⟩
  | .hbm, ⟨5, _⟩ => ⟨S5000, .i32⟩
  | .hbm, ⟨6, _⟩ => ⟨S_, .i32⟩
  | .hbm, ⟨7, _⟩ => ⟨S5000, .i32⟩
  | .hbm, ⟨8, _⟩ => ⟨S5000, .i1⟩
  | .hbm, ⟨9, _⟩ => ⟨S_, .i32⟩
  | .hbm, ⟨10, _⟩ => ⟨S5000, .i32⟩
  | .hbm, ⟨11, _⟩ => ⟨S5000, .i32⟩
  | .hbm, ⟨12, _⟩ => ⟨S5000, .i32⟩
  | .hbm, ⟨13, _⟩ => ⟨S5000x1, .i32⟩
  | .hbm, ⟨14, _⟩ => ⟨S1, .i32⟩
  | .hbm, ⟨15, _⟩ => ⟨S_, .i32⟩
  | .hbm, ⟨16, _⟩ => ⟨S5000x1, .i32⟩
  | .hbm, ⟨17, _⟩ => ⟨S5000x1, .i1⟩
  | .hbm, ⟨18, _⟩ => ⟨S1x1, .i32⟩
  | .hbm, ⟨19, _⟩ => ⟨S5000x1, .i32⟩
  | .hbm, ⟨20, _⟩ => ⟨S5000x1, .i1⟩
  | .hbm, ⟨21, _⟩ => ⟨S5000x1, .i1⟩
  | .hbm, ⟨22, _⟩ => ⟨S_, .i1⟩
  | .hbm, ⟨23, _⟩ => ⟨S5000, .i1⟩
  | .hbm, ⟨24, _⟩ => ⟨S5000x4, .f32⟩
  | .hbm, ⟨25, _⟩ => ⟨S5000x4, .i1⟩
  | .hbm, ⟨26, _⟩ => ⟨S_, .f32⟩
  | .hbm, ⟨27, _⟩ => ⟨S5000x4, .f32⟩
  | .hbm, ⟨28, _⟩ => ⟨S5000x4, .f32⟩
  | .hbm, ⟨29, _⟩ => ⟨S_, .i32⟩
  | .hbm, ⟨30, _⟩ => ⟨S5000, .i32⟩
  | .hbm, ⟨31, _⟩ => ⟨S5000, .i1⟩
  | .hbm, ⟨32, _⟩ => ⟨S_, .i32⟩
  | .hbm, ⟨33, _⟩ => ⟨S5000, .i32⟩
  | .hbm, ⟨34, _⟩ => ⟨S5000, .i32⟩
  | .hbm, ⟨35, _⟩ => ⟨S5000, .i32⟩
  | .hbm, ⟨36, _⟩ => ⟨S5000x1, .i32⟩
  | .hbm, ⟨37, _⟩ => ⟨S1, .i32⟩
  | .hbm, ⟨38, _⟩ => ⟨S_, .i32⟩
  | .hbm, ⟨39, _⟩ => ⟨S5000x1, .i32⟩
  | .hbm, ⟨40, _⟩ => ⟨S5000x1, .i1⟩
  | .hbm, ⟨41, _⟩ => ⟨S1x1, .i32⟩
  | .hbm, ⟨42, _⟩ => ⟨S5000x1, .i32⟩
  | .hbm, ⟨43, _⟩ => ⟨S5000x1, .i1⟩
  | .hbm, ⟨44, _⟩ => ⟨S5000x1, .i1⟩
  | .hbm, ⟨45, _⟩ => ⟨S_, .i1⟩
  | .hbm, ⟨46, _⟩ => ⟨S5000, .i1⟩
  | .hbm, ⟨47, _⟩ => ⟨S5000, .f32⟩
  | .hbm, ⟨48, _⟩ => ⟨S_, .f32⟩
  | .hbm, ⟨49, _⟩ => ⟨S5000, .f32⟩
  | .hbm, ⟨50, _⟩ => ⟨S5000, .f32⟩
  | .hbm, ⟨51, _⟩ => ⟨S_, .f32⟩
  | .hbm, ⟨52, _⟩ => ⟨S120x4, .f32⟩
  | .hbm, ⟨53, _⟩ => ⟨S5120x4, .f32⟩
  | .hbm, ⟨54, _⟩ => ⟨S4x5120, .f32⟩
  | .hbm, ⟨55, _⟩ => ⟨S1x5120, .f32⟩
  | .hbm, ⟨56, _⟩ => ⟨S1x5000, .f32⟩
  | .hbm, ⟨57, _⟩ => ⟨S5000, .f32⟩
  | .hbm, ⟨58, _⟩ => ⟨S_, .f32⟩
  | .hbm, ⟨59, _⟩ => ⟨S5000, .f32⟩
  | .hbm, ⟨60, _⟩ => ⟨S5000, .i1⟩
  | .hbm, ⟨61, _⟩ => ⟨S5000x1, .i1⟩
  | .hbm, ⟨62, _⟩ => ⟨S_, .f32⟩
  | .hbm, ⟨63, _⟩ => ⟨S_, .f32⟩
  | .hbm, ⟨64, _⟩ => ⟨S5000x4, .i1⟩
  | .hbm, ⟨65, _⟩ => ⟨S5000x4, .f32⟩
  | .hbm, ⟨66, _⟩ => ⟨S5000x4, .f32⟩
  | .hbm, ⟨67, _⟩ => ⟨S_, .f32⟩
  | .hbm, ⟨68, _⟩ => ⟨S_, .f32⟩
  | .hbm, ⟨69, _⟩ => ⟨S5000, .f32⟩
  | .hbm, ⟨70, _⟩ => ⟨S5000, .f32⟩
  | .local _ .vmem, ⟨0, _⟩ => ⟨S5120x4, .f32⟩
  | .local _ .vmem, ⟨1, _⟩ => ⟨S4x5120, .f32⟩
  | .local _ .vmem, ⟨2, _⟩ => ⟨S1x5120, .f32⟩
  | .local _ .vmem, ⟨3, _⟩ => ⟨S512x512, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_cst_0 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_1 : Ref sig .tc := ⟨.hbm, 62, rfl⟩
abbrev main_call3_v0 : Ref sig .tc := ⟨.hbm, 63, rfl⟩
abbrev main_call3_v1 : Ref sig .tc := ⟨.hbm, 64, rfl⟩
abbrev main_call3_v2 : Ref sig .tc := ⟨.hbm, 65, rfl⟩
abbrev main_v13 : Ref sig .tc := ⟨.hbm, 66, rfl⟩
abbrev main_cst_2 : Ref sig .tc := ⟨.hbm, 67, rfl⟩
abbrev main_call4_v0 : Ref sig .tc := ⟨.hbm, 68, rfl⟩
abbrev main_call4_v1 : Ref sig .tc := ⟨.hbm, 69, rfl⟩
abbrev main_v14 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S5120x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1 : Shape := ⟨1, ![1]⟩
abbrev S1x1 : Shape := ⟨2, ![1, 1]⟩
abbrev S1x5000 : Shape := ⟨2, ![1, 5000]⟩
abbrev S5000x5000 : Shape := ⟨2, ![5000, 5000]⟩

abbrev nBuf : Space → Nat
  | .hbm => 200
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S1, .i32⟩
  | 15 => ⟨S_, .i32⟩
  | 16 => ⟨S5000x1, .i32⟩
  | 17 => ⟨S5000x1, .i1⟩
  | 18 => ⟨S1x1, .i32⟩
  | 19 => ⟨S5000x1, .i32⟩
  | 20 => ⟨S5000x1, .i1⟩
  | 21 => ⟨S5000x1, .i1⟩
  | 22 => ⟨S_, .i1⟩
  | 23 => ⟨S5000, .i1⟩
  | 24 => ⟨S5000x4, .f32⟩
  | 25 => ⟨S5000x4, .i1⟩
  | 26 => ⟨S_, .f32⟩
  | 27 => ⟨S5000x4, .f32⟩
  | 28 => ⟨S5000x4, .f32⟩
  | 29 => ⟨S_, .i32⟩
  | 30 => ⟨S5000, .i32⟩
  | 31 => ⟨S5000, .i1⟩
  | 32 => ⟨S_, .i32⟩
  | 33 => ⟨S5000, .i32⟩
  | 34 => ⟨S5000, .i32⟩
  | 35 => ⟨S5000, .i32⟩
  | 36 => ⟨S5000x1, .i32⟩
  | 37 => ⟨S1, .i32⟩
  | 38 => ⟨S_, .i32⟩
  | 39 => ⟨S5000x1, .i32⟩
  | 40 => ⟨S5000x1, .i1⟩
  | 41 => ⟨S1x1, .i32⟩
  | 42 => ⟨S5000x1, .i32⟩
  | 43 => ⟨S5000x1, .i1⟩
  | 44 => ⟨S5000x1, .i1⟩
  | 45 => ⟨S_, .i1⟩
  | 46 => ⟨S5000, .i1⟩
  | 47 => ⟨S5000, .f32⟩
  | 48 => ⟨S_, .f32⟩
  | 49 => ⟨S5000, .f32⟩
  | 50 => ⟨S5000, .f32⟩
  | 51 => ⟨S5000x1, .f32⟩
  | 52 => ⟨S5000, .f32⟩
  | 53 => ⟨S5000x1, .f32⟩
  | 54 => ⟨S5000, .f32⟩
  | 55 => ⟨S5000x1, .f32⟩
  | 56 => ⟨S5000, .f32⟩
  | 57 => ⟨S5000x1, .f32⟩
  | 58 => ⟨S5000, .f32⟩
  | 59 => ⟨S5000, .f32⟩
  | 60 => ⟨S5000, .f32⟩
  | 61 => ⟨S5000, .f32⟩
  | 62 => ⟨S5000x1, .f32⟩
  | 63 => ⟨S1x5000, .f32⟩
  | 64 => ⟨S5000x5000, .f32⟩
  | 65 => ⟨S5000x5000, .f32⟩
  | 66 => ⟨S5000x5000, .f32⟩
  | 67 => ⟨S5000x1, .f32⟩
  | 68 => ⟨S1x5000, .f32⟩
  | 69 => ⟨S5000x5000, .f32⟩
  | 70 => ⟨S5000x5000, .f32⟩
  | 71 => ⟨S5000x5000, .f32⟩
  | 72 => ⟨S5000x1, .f32⟩
  | 73 => ⟨S1x5000, .f32⟩
  | 74 => ⟨S5000x5000, .f32⟩
  | 75 => ⟨S5000x5000, .f32⟩
  | 76 => ⟨S5000x5000, .f32⟩
  | 77 => ⟨S5000x1, .f32⟩
  | 78 => ⟨S1x5000, .f32⟩
  | 79 => ⟨S5000x5000, .f32⟩
  | 80 => ⟨S5000x5000, .f32⟩
  | 81 => ⟨S5000x5000, .f32⟩
  | 82 => ⟨S5000x5000, .f32⟩
  | 83 => ⟨S_, .f32⟩
  | 84 => ⟨S5000x5000, .f32⟩
  | 85 => ⟨S5000x5000, .f32⟩
  | 86 => ⟨S5000x5000, .f32⟩
  | 87 => ⟨S_, .f32⟩
  | 88 => ⟨S5000x5000, .f32⟩
  | 89 => ⟨S5000x5000, .f32⟩
  | 90 => ⟨S5000x5000, .f32⟩
  | 91 => ⟨S5000x1, .f32⟩
  | 92 => ⟨S1x5000, .f32⟩
  | 93 => ⟨S5000x5000, .f32⟩
  | 94 => ⟨S5000x5000, .f32⟩
  | 95 => ⟨S5000x5000, .f32⟩
  | 96 => ⟨S5000x5000, .f32⟩
  | 97 => ⟨S_, .f32⟩
  | 98 => ⟨S5000x5000, .f32⟩
  | 99 => ⟨S5000x5000, .i1⟩
  | 100 => ⟨S_, .f32⟩
  | 101 => ⟨S5000x5000, .f32⟩
  | 102 => ⟨S5000x5000, .f32⟩
  | 103 => ⟨S5000x5000, .f32⟩
  | 104 => ⟨S_, .f32⟩
  | 105 => ⟨S_, .f32⟩
  | 106 => ⟨S5000x5000, .f32⟩
  | 107 => ⟨S5000x5000, .f32⟩
  | 108 => ⟨S5000x1, .f32⟩
  | 109 => ⟨S5000, .f32⟩
  | 110 => ⟨S5000x1, .f32⟩
  | 111 => ⟨S5000, .f32⟩
  | 112 => ⟨S5000x1, .f32⟩
  | 113 => ⟨S5000, .f32⟩
  | 114 => ⟨S5000x1, .f32⟩
  | 115 => ⟨S5000, .f32⟩
  | 116 => ⟨S1x5000, .f32⟩
  | 117 => ⟨S5000x1, .f32⟩
  | 118 => ⟨S5000x5000, .f32⟩
  | 119 => ⟨S5000x5000, .f32⟩
  | 120 => ⟨S5000x5000, .i1⟩
  | 121 => ⟨S1x5000, .f32⟩
  | 122 => ⟨S5000x1, .f32⟩
  | 123 => ⟨S5000x5000, .f32⟩
  | 124 => ⟨S5000x5000, .f32⟩
  | 125 => ⟨S5000x5000, .i1⟩
  | 126 => ⟨S5000x5000, .i1⟩
  | 127 => ⟨S1x5000, .f32⟩
  | _ => ⟨S5000x4, .f32⟩

abbrev hbmTy0_1 (i : Nat) : BufTy := match i % 128 with
  | 0 => ⟨S5000x1, .f32⟩
  | 1 => ⟨S5000x5000, .f32⟩
  | 2 => ⟨S5000x5000, .f32⟩
  | 3 => ⟨S5000x5000, .i1⟩
  | 4 => ⟨S5000x5000, .i1⟩
  | 5 => ⟨S1x5000, .f32⟩
  | 6 => ⟨S5000x1, .f32⟩
  | 7 => ⟨S5000x5000, .f32⟩
  | 8 => ⟨S5000x5000, .f32⟩
  | 9 => ⟨S5000x5000, .i1⟩
  | 10 => ⟨S5000x5000, .i1⟩
  | 11 => ⟨S_, .f32⟩
  | 12 => ⟨S5000x5000, .f32⟩
  | 13 => ⟨S5000x5000, .i1⟩
  | 14 => ⟨S5000x5000, .i1⟩
  | 15 => ⟨S5000, .i32⟩
  | 16 => ⟨S_, .i1⟩
  | 17 => ⟨S5000, .i1⟩
  | 18 => ⟨S_, .i32⟩
  | 19 => ⟨S_, .i32⟩
  | 20 => ⟨S5000x5000, .i1⟩
  | 21 => ⟨S5000, .i32⟩
  | 22 => ⟨S_, .i32⟩
  | 23 => ⟨S_, .i32⟩
  | 24 => ⟨S5000, .i1⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S1x5000, .i1⟩
  | 44 => ⟨S5000, .i1⟩
  | 45 => ⟨S_, .i32⟩
  | 46 => ⟨S5000, .i32⟩
  | 47 => ⟨S5000, .i1⟩
  | 48 => ⟨S5000, .i1⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S1, .i1⟩
  | 56 => ⟨S_, .i1⟩
  | 57 => ⟨S5000, .i1⟩
  | 58 => ⟨S5000, .i1⟩
  | 59 => ⟨S5000, .i1⟩
  | 60 => ⟨S_, .i32⟩
  | 61 => ⟨S_, .i32⟩
  | 62 => ⟨S5000x1, .i1⟩
  | 63 => ⟨S_, .f32⟩
  | 64 => ⟨S_, .f32⟩
  | 65 => ⟨S5000x4, .i1⟩
  | 66 => ⟨S5000x4, .f32⟩
  | 67 => ⟨S5000x4, .f32⟩
  | 68 => ⟨S_, .f32⟩
  | 69 => ⟨S_, .f32⟩
  | 70 => ⟨S5000, .f32⟩
  | 71 => ⟨S5000, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_v14 : Ref sig .tc := ⟨.hbm, 25, rfl⟩
abbrev main_call1_cst : Ref sig .tc := ⟨.hbm, 26, rfl⟩
abbrev main_call1_v15 : Ref sig .tc := ⟨.hbm, 27, rfl⟩
abbrev main_v2 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_0 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_cst_1 : Ref sig .tc := ⟨.hbm, 97, rfl⟩
abbrev main_v48 : Ref sig .tc := ⟨.hbm, 98, rfl⟩
abbrev main_v49 : Ref sig .tc := ⟨.hbm, 99, rfl⟩
abbrev main_cst_2 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_cst_3 : Ref sig .tc := ⟨.hbm, 104, rfl⟩
abbrev main_call3_v0 : Ref sig .tc := ⟨.hbm, 105, rfl⟩
abbrev main_call3_v1 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_cst_4 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_c : Ref sig .tc := ⟨.hbm, 144, rfl⟩
abbrev main_v89 : Ref sig .tc := ⟨.hbm, 145, rfl⟩
abbrev main_c_5 : Ref sig .tc := ⟨.hbm, 146, rfl⟩
abbrev main_c_6 : Ref sig .tc := ⟨.hbm, 147, rfl⟩
abbrev main_v90_0 : Ref sig .tc := ⟨.hbm, 148, rfl⟩
abbrev main_v90_1 : Ref sig .tc := ⟨.hbm, 149, rfl⟩
abbrev main_v90_2 : Ref sig .tc := ⟨.hbm, 150, rfl⟩
abbrev main_v90_3 : Ref sig .tc := ⟨.hbm, 151, rfl⟩
abbrev main_v90_4 : Ref sig .tc := ⟨.hbm, 152, rfl⟩
abbrev main_while0c_c_13 : Ref sig .tc := ⟨.hbm, 153, rfl⟩
abbrev main_while0c_v94 : Ref sig .tc := ⟨.hbm, 154, rfl⟩
abbrev main_while0b_c_13 : Ref sig .tc := ⟨.hbm, 155, rfl⟩
abbrev main_while0b_v94 : Ref sig .tc := ⟨.hbm, 156, rfl⟩
abbrev main_while0b_v95 : Ref sig .tc := ⟨.hbm, 157, rfl⟩
abbrev main_while0b_c_14 : Ref sig .tc := ⟨.hbm, 158, rfl⟩
abbrev main_while0b_v96 : Ref sig .tc := ⟨.hbm, 159, rfl⟩
abbrev main_while0b_c_15 : Ref sig .tc := ⟨.hbm, 160, rfl⟩
abbrev main_while0b_v97 : Ref sig .tc := ⟨.hbm, 161, rfl⟩
abbrev main_while0b_v98 : Ref sig .tc := ⟨.hbm, 162, rfl⟩
abbrev main_while0b_c_16 : Ref sig .tc := ⟨.hbm, 163, rfl⟩
abbrev main_while0b_c_17 : Ref sig .tc := ⟨.hbm, 164, rfl⟩
abbrev main_while0b_v99 : Ref sig .tc := ⟨.hbm, 165, rfl⟩
abbrev main_while0b_c_18 : Ref sig .tc := ⟨.hbm, 166, rfl⟩
abbrev main_while0b_c_19 : Ref sig .tc := ⟨.hbm, 167, rfl⟩
abbrev main_while0b_v100 : Ref sig .tc := ⟨.hbm, 168, rfl⟩
abbrev main_while0b_c_20 : Ref sig .tc := ⟨.hbm, 169, rfl⟩
abbrev main_while0b_v101 : Ref sig .tc := ⟨.hbm, 170, rfl⟩
abbrev main_while0b_v102 : Ref sig .tc := ⟨.hbm, 171, rfl⟩
abbrev main_while0b_v103 : Ref sig .tc := ⟨.hbm, 172, rfl⟩
abbrev main_while0b_v104 : Ref sig .tc := ⟨.hbm, 173, rfl⟩
abbrev main_while0b_v105 : Ref sig .tc := ⟨.hbm, 174, rfl⟩
abbrev main_while0b_v106 : Ref sig .tc := ⟨.hbm, 175, rfl⟩
abbrev main_while0b_v107 : Ref sig .tc := ⟨.hbm, 176, rfl⟩
abbrev main_while0b_c_21 : Ref sig .tc := ⟨.hbm, 177, rfl⟩
abbrev main_while0b_v108 : Ref sig .tc := ⟨.hbm, 178, rfl⟩
abbrev main_while0b_v109 : Ref sig .tc := ⟨.hbm, 179, rfl⟩
abbrev main_while0b_c_22 : Ref sig .tc := ⟨.hbm, 180, rfl⟩
abbrev main_while0b_v110 : Ref sig .tc := ⟨.hbm, 181, rfl⟩
abbrev main_while0b_v111 : Ref sig .tc := ⟨.hbm, 182, rfl⟩
abbrev main_while0b_v112 : Ref sig .tc := ⟨.hbm, 183, rfl⟩
abbrev main_while0b_v113 : Ref sig .tc := ⟨.hbm, 184, rfl⟩
abbrev main_while0b_v114 : Ref sig .tc := ⟨.hbm, 185, rfl⟩
abbrev main_while0b_v115 : Ref sig .tc := ⟨.hbm, 186, rfl⟩
abbrev main_while0b_v116 : Ref sig .tc := ⟨.hbm, 187, rfl⟩
abbrev main_while0b_c_23 : Ref sig .tc := ⟨.hbm, 188, rfl⟩
abbrev main_while0b_v117 : Ref sig .tc := ⟨.hbm, 189, rfl⟩
abbrev main_v91 : Ref sig .tc := ⟨.hbm, 190, rfl⟩
abbrev main_cst_7 : Ref sig .tc := ⟨.hbm, 191, rfl⟩
abbrev main_call5_v0 : Ref sig .tc := ⟨.hbm, 192, rfl⟩
abbrev main_call5_v1 : Ref sig .tc := ⟨.hbm, 193, rfl⟩
abbrev main_call5_v2 : Ref sig .tc := ⟨.hbm, 194, rfl⟩
abbrev main_v92 : Ref sig .tc := ⟨.hbm, 195, rfl⟩
abbrev main_cst_8 : Ref sig .tc := ⟨.hbm, 196, rfl⟩
abbrev main_call6_v0 : Ref sig .tc := ⟨.hbm, 197, rfl⟩
abbrev main_call6_v1 : Ref sig .tc := ⟨.hbm, 198, rfl⟩
abbrev main_v93 : Ref sig .tc := ⟨.hbm, 199, rfl⟩

abbrev nD : Nat := 1
abbrev τ : Topo := Topo.v7x

variable {F : FTy → Type} [FloatOps F]

abbrev main_while0_count : Scf.Loop 32 := ⟨0#32, 5000#32, 1#32⟩
-- ==== Proof.Model.lean ====
/-
  The kernel's values as a short program over one block, one group of sixteen rows at a time: what the
  printed body computes, written once with the block and the group as numbers. Everything here is at any
  interpretation of the floating-point operations.
-/
module

public import proofs.«01_k».proof.Proof.Gen.KernelIdeal
public import Idealize.ShloMosaic.Lib.Pipeline.FrameBody

@[expose] public section

set_option maxRecDepth 16384

noncomputable section

namespace Cert.Proof.Model

open Cert.KernelIdeal Cert.KernelIdeal.Gen
open Idealize.ShloMosaic Idealize.SL.Sem

variable {F : FTy → Type} [FloatOps F]

/-! ## Offsets that stay inside -/

theorem inbRows (j : ℕ) (hj : j < 10) : ∀ i : Fin S5120x4.rank, ![512 * j, 0] i + S512x4.size i ≤ S5120x4.size i := by
  intro i; fin_cases i
  · show 512 * j + 512 ≤ 5120; omega
  · exact Nat.le_refl 4

theorem inbCols (i : ℕ) (hi : i < 10) : ∀ a : Fin S4x5120.rank, ![0, 512 * i] a + S4x512.size a ≤ S4x5120.size a := by
  intro a; fin_cases a
  · exact Nat.le_refl 4
  · show 512 * i + 512 ≤ 5120; omega

theorem inbOut (i : ℕ) (hi : i < 10) : ∀ a : Fin S1x5120.rank, ![0, 512 * i] a + S1x512.size a ≤ S1x5120.size a := by
  intro a; fin_cases a
  · exact Nat.le_refl 1
  · show 512 * i + 512 ≤ 5120; omega

theorem inbSq (s : ℕ) (hs : s < 32) : ∀ a : Fin S512x512.rank, ![16 * s, 16 * s] a + S16x16.size a ≤ S512x512.size a := by
  intro a; fin_cases a <;> (show 16 * s + 16 ≤ 512; omega)

theorem inbBand (s : ℕ) (hs : s < 32) : ∀ a : Fin S512x512.rank, ![16 * s, 0] a + S16x512.size a ≤ S512x512.size a := by
  intro a; fin_cases a
  · show 16 * s + 16 ≤ 512; omega
  · exact Nat.le_refl 512

theorem slCols (s : ℕ) (hs : s < 32) : S1x512.Slices ![0, 16 * s] S1x16 :=
  ⟨rfl, fun a => by fin_cases a
                    · exact Nat.le_refl 1
                    · show 16 * s + 16 ≤ 512; omega⟩

theorem slRow (r : ℕ) (hr : r < 15) : S16x16.Slices ![r, 0] S1x16 :=
  ⟨rfl, fun a => by fin_cases a
                    · show r + 1 ≤ 16; omega
                    · exact Nat.le_refl 16⟩

theorem slOne (r : ℕ) (hr : r < 15) : S1x16.Slices ![0, r] S1x1 :=
  ⟨rfl, fun a => by fin_cases a
                    · exact Nat.le_refl 1
                    · show r + 1 ≤ 16; omega⟩

theorem lt32 (s : ℕ) : s % 32 < 32 := Nat.mod_lt _ (by decide)
theorem lt10 (s : ℕ) : s % 10 < 10 := Nat.mod_lt _ (by decide)

/-! ## The rectangles the body reads and writes, by block and group (a number past the end wraps) -/

/-- The five hundred and twelve boxes of block `j`, as rows. -/
abbrev rRows (j : ℕ) : Rect S5120x4 := Rect.unit (s := S5120x4) ![512 * (j % 10), 0] S512x4.size (inbRows _ (lt10 j))
/-- The boxes of block `i`, as columns. -/
abbrev rCols (i : ℕ) : Rect S4x5120 := Rect.unit (s := S4x5120) ![0, 512 * (i % 10)] S4x512.size (inbCols _ (lt10 i))
/-- The results of block `i`. -/
abbrev rOut (i : ℕ) : Rect S1x5120 := Rect.unit (s := S1x5120) ![0, 512 * (i % 10)] S1x512.size (inbOut _ (lt10 i))
/-- The diagonal sixteen-by-sixteen square of group `s`. -/
abbrev rSq (s : ℕ) : Rect S512x512 := Rect.unit (s := S512x512) ![16 * (s % 32), 16 * (s % 32)] S16x16.size (inbSq _ (lt32 s))
/-- The sixteen rows of group `s`. -/
abbrev rBand (s : ℕ) : Rect S512x512 := Rect.unit (s := S512x512) ![16 * (s % 32), 0] S16x512.size (inbBand _ (lt32 s))

/-! ## Which boxes of one block suppress which of another -/

/-- For the rows `r` (boxes) and the columns `c` (boxes): one where box `c` lies inside box `r` or overlaps it by
    more than nine tenths, zero elsewhere. -/
def tileOf (r : FVec F S512x4 .f32) (c : FVec F S4x512 .f32) : FVec F S512x512 .f32 :=
  have x1r : FVec F S512x1 .f32 := extractStridedSlice S512x1 ![0, 0] r slices_S512x4_o0_0_S512x1
  have y1r : FVec F S512x1 .f32 := extractStridedSlice S512x1 ![0, 1] r slices_S512x4_o0_1_S512x1
  have x2r : FVec F S512x1 .f32 := extractStridedSlice S512x1 ![0, 2] r slices_S512x4_o0_2_S512x1
  have y2r : FVec F S512x1 .f32 := extractStridedSlice S512x1 ![0, 3] r slices_S512x4_o0_3_S512x1
  have x1c : FVec F S1x512 .f32 := extractStridedSlice S1x512 ![0, 0] c slices_S4x512_o0_0_S1x512
  have y1c : FVec F S1x512 .f32 := extractStridedSlice S1x512 ![1, 0] c slices_S4x512_o1_0_S1x512
  have x2c : FVec F S1x512 .f32 := extractStridedSlice S1x512 ![2, 0] c slices_S4x512_o2_0_S1x512
  have y2c : FVec F S1x512 .f32 := extractStridedSlice S1x512 ![3, 0] c slices_S4x512_o3_0_S1x512
  have ar : FVec F S512x1 .f32 := mulf (subf x2r x1r) (subf y2r y1r)
  have ac : FVec F S1x512 .f32 := mulf (subf x2c x1c) (subf y2c y1c)
  have onR : FVec F S512x1 .f32 → FVec F S512x512 .f32 := fun v => broadcastTo S512x512 v broadcasts_S512x1_S512x512
  have onC : FVec F S1x512 .f32 → FVec F S512x512 .f32 := fun v => broadcastTo S512x512 v broadcasts_S1x512_S512x512
  have zero : FVec F S512x512 .f32 := broadcast S512x512 (Scalar.ofBits .f32 0x00000000#32)
  have xA := maximumf (onR x1r) (onC x1c)
  have yA := maximumf (onR y1r) (onC y1c)
  have xB := minimumf (onR x2r) (onC x2c)
  have yB := minimumf (onR y2r) (onC y2c)
  have inter := mulf (maximumf (subf xB xA) zero) (maximumf (subf yB yA) zero)
  have union := subf (addf (onR ar) (onC ac)) inter
  have iou := select (cmpf .ogt inter zero)
    (divf inter (maximumf union (broadcast S512x512 (Scalar.ofBits .f32 0x2B8CBCCC#32)))) zero
  have inside := andi (andi (andi (cmpf .oge (onC x1c) (onR x1r)) (cmpf .oge (onC y1c) (onR y1r)))
    (cmpf .ole (onC x2c) (onR x2r))) (cmpf .ole (onC y2c) (onR y2r))
  sitofp .f32 (extui 32 (ori inside (cmpf .ogt iou (broadcast S512x512 (Scalar.ofBits .f32 0x3F666666#32)))) natLt_1_32)

/-- The tile of row block `j` against column block `i`. -/
def tile (A : Vec F S5120x4 .f32) (B : Vec F S4x5120 .f32) (j i : ℕ) : FVec F S512x512 .f32 :=
  tileOf (shapeCast S512x4 (View.ld A (rRows j)) shapeCasts_S512x4_S512x4) (shapeCast S4x512 (View.ld B (rCols i)) shapeCasts_S4x512_S4x512)

/-- The tile of block `i` against itself, as the scratch holds it. -/
def diag (A : Vec F S5120x4 .f32) (B : Vec F S4x5120 .f32) (i : ℕ) : FVec F S512x512 .f32 :=
  shapeCast S512x512 (tile A B i i) shapeCasts_S512x512_S512x512

/-! ## One group of sixteen -/

/-- One where the lane is past `r`. -/
def gt16 (r : ℕ) : FVec F S1x16 .f32 :=
  sitofp .f32 (extui 32 (cmpi .sgt (iota .tc S1x16 32 [1] iota_S1x16_d1_w32) (broadcast S1x16 (BitVec.ofNat 32 r))) natLt_1_32)

/-- One step of the group's own pass: what lane `r` keeps suppresses the later lanes. -/
def solveStep (cs : FVec F S16x16 .f32) (r : ℕ) (hr : r < 15) (ks : FVec F S1x16 .f32) : FVec F S1x16 .f32 :=
  mulf ks (subf (broadcast S1x16 (Scalar.ofBits .f32 0x3F800000#32))
    (mulf (broadcastTo S1x16 (extractStridedSlice S1x1 ![0, r] ks (slOne r hr)) broadcasts_S1x1_S1x16)
      (mulf (extractStridedSlice S1x16 ![r, 0] cs (slRow r hr)) (gt16 r))))

/-- The first `n` steps. -/
def solveN (cs : FVec F S16x16 .f32) (ks : FVec F S1x16 .f32) : (n : ℕ) → n ≤ 15 → FVec F S1x16 .f32
  | 0, _ => ks
  | n + 1, h => solveStep cs n h (solveN cs ks n (Nat.le_of_succ_le h))

/-- All fifteen. -/
def solve (cs : FVec F S16x16 .f32) (ks : FVec F S1x16 .f32) : FVec F S1x16 .f32 := solveN cs ks 15 (Nat.le_refl _)

/-- Whether some box of the group suppresses a later one of it. -/
def dirty (cs : FVec F S16x16 .f32) : BitVec 1 :=
  have triu : FVec F S16x16 .f32 := sitofp .f32 (extui 32 (cmpi .sgt (iota .tc S16x16 32 [1] iota_S16x16_d1_w32) (iota .tc S16x16 32 [0] iota_S16x16_d0_w32)) natLt_1_32)
  have tot : FVec F S1 .f32 := multiReduction .add [1, 2] S1 (shapeCast S1x16x16 (mulf cs triu) shapeCasts_S16x16_S1x16x16) 0x00000000#32 reduces_S1x16x16_S1 (.inl rfl) rfl
  Scalar.cmpi .ne (Scalar.extui (Scalar.cmpf .ogt (extractAt ![0, 0, 0] (shapeCast S1x1x1 tot shapeCasts_S1_S1x1x1) inpos_S1x1x1_p0_0_0) (Scalar.ofBits .f32 0x00000000#32)) : BitVec 32) (0#32 : BitVec 32)

/-- The conditional: the group's own pass where it is dirty, the group as it was elsewhere. -/
def group (cs : FVec F S16x16 .f32) (ks : FVec F S1x16 .f32) : FVec F S1x16 .f32 :=
  if dirty cs = 1#1 then solve cs ks else ks

/-- The group's square of the tile. -/
def sq (cd : Vec F S512x512 .f32) (s : ℕ) : FVec F S16x16 .f32 := View.ld cd (rSq s)

/-- The group's sixteen lanes of the block. -/
def lanesOf (s : ℕ) (keep : FVec F S1x512 .f32) : FVec F S1x16 .f32 :=
  extractStridedSlice S1x16 ![0, 16 * (s % 32)] keep (slCols _ (lt32 s))

/-- The group's rows of the tile, only the columns past each row's own. -/
def band (cd : Vec F S512x512 .f32) (s : ℕ) : FVec F S16x512 .f32 :=
  have at_ : IVec S16x1 32 := addi (iota .tc S16x1 32 [0] iota_S16x1_d0_w32) (broadcast S16x1 (BitVec.ofNat 32 (16 * (s % 32))))
  mulf (View.ld cd (rBand s))
    (sitofp .f32 (extui 32 (cmpi .sgt (broadcastTo S16x512 (iota .tc S1x512 32 [1] iota_S1x512_d1_w32) broadcasts_S1x512_S16x512)
      (broadcastTo S16x512 at_ broadcasts_S16x1_S16x512)) natLt_1_32))

/-- One where the value is zero. -/
def isZero (v : FVec F S1x512 .f32) : FVec F S1x512 .f32 :=
  sitofp .f32 (extui 32 (cmpf .oeq v (broadcast S1x512 (Scalar.ofBits .f32 0x00000000#32))) natLt_1_32)

/-- The group's effect on the block: what the group keeps suppresses the later lanes of the block. -/
def stepKeep (cd : FVec F S512x512 .f32) (s : ℕ) (keep : FVec F S1x512 .f32) : FVec F S1x512 .f32 :=
  mulf keep (isZero (matmul dot_S1x16_S16x512_S1x512_1_0_0_1_n_n none (group (sq cd s) (lanesOf s keep)) (band cd s) (constant S1x512 .f32 0x00000000#32)))

/-! ## One block -/

/-- How many boxes kept in the blocks before `n` suppress each box of block `i`. -/
def supAt (A : Vec F S5120x4 .f32) (B : Vec F S4x5120 .f32) (i : ℕ) (prev : ℕ → FVec F S1x512 .f32) : ℕ → FVec F S1x512 .f32 :=
  Nat.rec (broadcast S1x512 (Scalar.ofBits .f32 0x00000000#32))
    fun j sup => addf sup (matmul dot_S1x512_S512x512_S1x512_1_0_0_1_n_n none (prev j) (tile A B j i) (constant S1x512 .f32 0x00000000#32))

/-- Block `i` after its first `n` groups, from the finished blocks before it. -/
def keepFrom (A : Vec F S5120x4 .f32) (B : Vec F S4x5120 .f32) (i : ℕ) (prev : ℕ → FVec F S1x512 .f32) : ℕ → FVec F S1x512 .f32 :=
  Nat.rec (isZero (supAt A B i prev i)) fun s keep => stepKeep (diag A B i) s keep

/-- The finished blocks before `n`. -/
def done (A : Vec F S5120x4 .f32) (B : Vec F S4x5120 .f32) : ℕ → ℕ → FVec F S1x512 .f32 :=
  Nat.rec (fun _ => broadcast S1x512 (Scalar.ofBits .f32 0x00000000#32))
    fun n prev i => if i = n then keepFrom A B n prev 32 else prev i

/-- Block `i` after its first `s` groups. -/
def keepAt (A : Vec F S5120x4 .f32) (B : Vec F S4x5120 .f32) (i s : ℕ) : FVec F S1x512 .f32 := keepFrom A B i (done A B i) s

/-- The kernel's stores so far, last first. -/
def pieces (A : Vec F S5120x4 .f32) (B : Vec F S4x5120 .f32) : ℕ → List (View.Piece (Elt F) S1x5120 .f32) :=
  Nat.rec [] fun i L => ⟨rOut i, keepAt A B i 32⟩ :: L

/-- What the kernel leaves in its output. -/
def outVal (A : Vec F S5120x4 .f32) (B : Vec F S4x5120 .f32) : Vec F S1x5120 .f32 := View.canon (pieces A B 10)

/-! ## The finished blocks, by number -/

variable (A : Vec F S5120x4 .f32) (B : Vec F S4x5120 .f32)

theorem done_of_lt {n j : ℕ} (h : j < n) : done A B n j = keepAt A B j 32 := by
  induction n with
  | zero => omega
  | succ n ih =>
    show (if j = n then keepFrom A B n (done A B n) 32 else done A B n j) = _
    by_cases hj : j = n
    · subst hj; rw [if_pos rfl]; rfl
    · rw [if_neg hj]; exact ih (by omega)

theorem supAt_congr {i : ℕ} {p p' : ℕ → FVec F S1x512 .f32} (n : ℕ) (h : ∀ j < n, p j = p' j) : supAt A B i p n = supAt A B i p' n := by
  induction n with
  | zero => rfl
  | succ n ih =>
    show addf (supAt A B i p n) _ = addf (supAt A B i p' n) _
    rw [ih fun j hj => h j (by omega), h n (by omega)]

/-- A block starts from the finished blocks before it. -/
theorem keepAt_zero (i : ℕ) : keepAt A B i 0 = isZero (supAt A B i (fun j => keepAt A B j 32) i) := by
  show isZero (supAt A B i (done A B i) i) = _
  rw [supAt_congr A B i fun j hj => done_of_lt A B hj]

/-- Each group is one step. -/
theorem keepAt_succ (i s : ℕ) : keepAt A B i (s + 1) = stepKeep (diag A B i) s (keepAt A B i s) := rfl

end Cert.Proof.Model
-- ==== Proof.Rules.lean ====
/-
  Rules for running the kernel's body: what the four buffers hold at a point of the body, by the number of
  finished blocks and groups, and one rule for each statement the body is made of.
-/
module

public import proofs.«01_k».proof.Proof.Model
public import Idealize.ShloMosaic.Lib.Claim
public import Idealize.ShloMosaic.Lib.VecWindow
public import Idealize.ShloMosaic.Lib.Tactic
public import proofs.«01_k».proof.Proof.Gen.KernelIdeal.Frame

@[expose] public section

set_option maxRecDepth 16384

noncomputable section

namespace Cert.Proof.Rules

open Cert.KernelIdeal Cert.KernelIdeal.Gen Cert.Proof.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's setting: the core, the four buffers and what the two inputs hold, and the output's contents before. -/
structure Setting (F : FTy → Type) [FloatOps F] where
  c : Dev nD
  E : Set ℕ
  a0 : Memref sig .tc .vmem S5120x4 .f32
  a1 : Memref sig .tc .vmem S4x5120 .f32
  a2 : Memref sig .tc .vmem S1x5120 .f32
  a3 : Memref sig .tc .vmem S512x512 .f32
  A : Vec F S5120x4 .f32
  B : Vec F S4x5120 .f32
  f2 : a2.view.ty.Contents (Elt F)
  Q : PUnit → sProp (MT nD τ sig Unit (Elt F) ℕ (UR sig nD τ) ℕ)

variable (σ : Setting F)

/-- What the buffers hold after `i` finished blocks, the scratch at `cd`. -/
def Holds (cd : Vec F S512x512 .f32) (i : ℕ) : sProp 𝕄 :=
  iprop(owns (σ.c : Thread nD τ) σ.a0 fullShare σ.A ∗ owns (σ.c : Thread nD τ) σ.a1 fullShare σ.B
    ∗ (σ.a2.view.loc (σ.c : Thread nD τ) ↦[σ.a2.view.set]{fullShare} σ.a2.view.writes (Elt F) σ.f2 (pieces σ.A σ.B i))
    ∗ owns (σ.c : Thread nD τ) σ.a3 fullShare cd)

/-- The rest `p` of the body runs to the setting's end from `i` finished blocks and `s` groups of the next. -/
def Ev (cd : Vec F S512x512 .f32) (i s : ℕ) (p : Prog (TpuEff nD τ sig (Elt F) Λ₀ .tc) PUnit) : Prop :=
  Holds σ cd i ⊢ wp frame (wpE (defs₀ (F := F)) Variants.none σ.c none) σ.E p σ.Q

variable {σ} {cd : Vec F S512x512 .f32} {i s : ℕ} {α β : Type}

theorem ev_assoc {p : Prog (TpuEff nD τ sig (Elt F) Λ₀ .tc) α} {k : α → Prog (TpuEff nD τ sig (Elt F) Λ₀ .tc) β} {K : β → Prog (TpuEff nD τ sig (Elt F) Λ₀ .tc) PUnit}
    (h : Ev σ cd i s (p >>= fun a => k a >>= K)) : Ev σ cd i s ((p >>= k) >>= K) := by
  rw [Prog.bind_assoc]; exact h

theorem ev_ret {a : α} {K : α → Prog (TpuEff nD τ sig (Elt F) Λ₀ .tc) PUnit} (h : Ev σ cd i s (K a)) : Ev σ cd i s (Prog.ret a >>= K) := h

/-- A load through a memref owned at `X` reads `X` at the rectangle's indices. -/
theorem wp_load_owns (c : Dev nD) (E : Set ℕ) {sh : Shape} {m : Memref sig .tc .vmem sh .f32} {r : Rect sh} {hl : m.view.LoadsAt r.toLoadRect}
    {X : sh.Idx → Elt F .f32} {K : (r.shape.Idx → Elt F .f32) → Prog (TpuEff nD τ sig (Elt F) Λ₀ .tc) PUnit} {Q : PUnit → sProp 𝕄} :
    owns (c : Thread nD τ) m fullShare X
      ⊢ iprop((owns (c : Thread nD τ) m fullShare X -∗ wp frame (wpE (defs₀ (F := F)) Variants.none c none) E (K (View.ld X r)) Q)
        -∗ wp frame (wpE (defs₀ (F := F)) Variants.none c none) E (Prog.op (.load m r.toLoadRect hl) K) Q) := by
  iintro H Hk
  ihave H' := (show owns (c : Thread nD τ) m fullShare X ⊢ iprop(∃ g, ⌜m.view.read (Elt F) g = X⌝ ∗ m.view.loc (c : Thread nD τ) ↦[m.view.set]{fullShare} g : sProp 𝕄) from .rfl) $$ H
  icases H' with ⟨%g, %hg, H⟩
  subst hg
  iapply (wp_load (defs := defs₀ (F := F)) Variants.none (c : Thread nD τ) none E (hl := hl) (k := K) (Q := Q) (m.view.setOn_subset_set _)) $$ H
  iintro H
  iapply Hk
  iapply owns_intro (c : Thread nD τ) m fullShare g
  iexact H

theorem ev_load0 {r : Rect S5120x4} {hl : σ.a0.view.LoadsAt r.toLoadRect} {K : (r.shape.Idx → Elt F .f32) → Prog (TpuEff nD τ sig (Elt F) Λ₀ .tc) PUnit}
    (h : Ev σ cd i s (K (View.ld σ.A r))) : Ev σ cd i s (Prog.lift (.load σ.a0 r.toLoadRect hl) >>= K) := by
  unfold Ev Holds at *
  iintro ⟨H0, H1, H2, H3⟩
  iapply (wp_load_owns σ.c σ.E (hl := hl) (X := σ.A) (K := K) (Q := σ.Q)) $$ H0
  iintro H0
  iapply h
  isplitl [H0]; · iexact H0
  isplitl [H1]; · iexact H1
  isplitl [H2]; · iexact H2
  iexact H3

theorem ev_load1 {r : Rect S4x5120} {hl : σ.a1.view.LoadsAt r.toLoadRect} {K : (r.shape.Idx → Elt F .f32) → Prog (TpuEff nD τ sig (Elt F) Λ₀ .tc) PUnit}
    (h : Ev σ cd i s (K (View.ld σ.B r))) : Ev σ cd i s (Prog.lift (.load σ.a1 r.toLoadRect hl) >>= K) := by
  unfold Ev Holds at *
  iintro ⟨H0, H1, H2, H3⟩
  iapply (wp_load_owns σ.c σ.E (hl := hl) (X := σ.B) (K := K) (Q := σ.Q)) $$ H1
  iintro H1
  iapply h
  isplitl [H0]; · iexact H0
  isplitl [H1]; · iexact H1
  isplitl [H2]; · iexact H2
  iexact H3

theorem ev_load3 {r : Rect S512x512} {hl : σ.a3.view.LoadsAt r.toLoadRect} {K : (r.shape.Idx → Elt F .f32) → Prog (TpuEff nD τ sig (Elt F) Λ₀ .tc) PUnit}
    (h : Ev σ cd i s (K (View.ld cd r))) : Ev σ cd i s (Prog.lift (.load σ.a3 r.toLoadRect hl) >>= K) := by
  unfold Ev Holds at *
  iintro ⟨H0, H1, H2, H3⟩
  iapply (wp_load_owns σ.c σ.E (hl := hl) (X := cd) (K := K) (Q := σ.Q)) $$ H3
  iintro H3
  iapply h
  isplitl [H0]; · iexact H0
  isplitl [H1]; · iexact H1
  isplitl [H2]; · iexact H2
  iexact H3

/-- What the output holds is not used, so a load of it may read anything. -/
theorem ev_load2 {r : Rect S1x5120} {hl : σ.a2.view.LoadsAt r.toLoadRect} {K : (r.shape.Idx → Elt F .f32) → Prog (TpuEff nD τ sig (Elt F) Λ₀ .tc) PUnit}
    (h : ∀ x, Ev σ cd i s (K x)) : Ev σ cd i s (Prog.lift (.load σ.a2 r.toLoadRect hl) >>= K) := by
  unfold Ev Holds at *
  iintro ⟨H0, H1, H2, H3⟩
  iapply (wp_load (defs := defs₀ (F := F)) Variants.none (σ.c : Thread nD τ) none σ.E (hl := hl) (k := K) (Q := σ.Q) (σ.a2.view.setOn_subset_set _)) $$ H2
  iintro H2
  iapply h
  isplitl [H0]; · iexact H0
  isplitl [H1]; · iexact H1
  isplitl [H2]; · iexact H2
  iexact H3

/-- The whole scratch, as the rectangle the body stores through. -/
abbrev rAll : Rect S512x512 := Rect.unit (s := S512x512) ![0, 0] S512x512.size inb_S512x512_S512x512_0_0

/-- What the scratch reads after a store of all of it. -/
theorem read_full (m : Memref sig .tc .vmem S512x512 .f32) (g : m.view.ty.Contents (Elt F)) (w : FVec F S512x512 .f32) :
    m.view.read (Elt F) (m.view.writes (Elt F) g [⟨rAll, w⟩]) = w := by
  funext y
  have e : rAll.emb y = y := Rect.emb_unit_full (s := S512x512) inb_S512x512_S512x512_0_0 y
  have h := View.read_writes_cons_emb m.view g rAll w [] y
  rw [e] at h
  exact h

/-- Storing the block's own tile into the scratch. -/
theorem ev_store3 {w : FVec F S512x512 .f32} {hx : (σ.a3.access rAll).Stores Finset.univ} {hm : Finset.univ = Finset.univ ∨ ∀ a, rAll.stride a = 1}
    {K : PUnit → Prog (TpuEff nD τ sig (Elt F) Λ₀ .tc) PUnit}
    (hw : w = diag σ.A σ.B i)
    (h : Ev σ (diag σ.A σ.B i) i s (K ⟨⟩)) : Ev σ cd i s (Prog.lift (.store σ.a3 rAll w Finset.univ hx hm) >>= K) := by
  subst hw
  unfold Ev Holds at *
  iintro ⟨H0, H1, H2, H3⟩
  ihave H' := (show owns (σ.c : Thread nD τ) σ.a3 fullShare cd ⊢ iprop(∃ g, ⌜σ.a3.view.read (Elt F) g = cd⌝ ∗ σ.a3.view.loc (σ.c : Thread nD τ) ↦[σ.a3.view.set]{fullShare} g : sProp 𝕄) from .rfl) $$ H3
  icases H' with ⟨%g, -, H3⟩
  iapply (wp_store (defs := defs₀ (F := F)) Variants.none (σ.c : Thread nD τ) none σ.E (hx := hx) (hm := hm) (k := K) (Q := σ.Q) (S := σ.a3.view.set) (σ.a3.view.set_slice_subset _)) $$ H3
  iintro H3
  iapply h
  isplitl [H0]; · iexact H0
  isplitl [H1]; · iexact H1
  isplitl [H2]; · iexact H2
  have hr := read_full σ.a3 g (diag σ.A σ.B i)
  have ho := owns_intro (Ix := Unit) (Name := ℕ) (U := UR sig nD τ) (Lvl := ℕ) (σ.c : Thread nD τ) σ.a3 fullShare
    (σ.a3.view.writes (Elt F) g [⟨rAll, diag σ.A σ.B i⟩])
  rw [hr] at ho
  rw [View.writes_singleton] at ho
  iapply ho
  iexact H3

/-- Storing the finished block into its part of the output. -/
theorem ev_store2 {off : Fin 2 → ℕ} {inb : ∀ a, off a + S1x512.size a ≤ S1x5120.size a} {w : FVec F S1x512 .f32}
    {hx : (σ.a2.access (Rect.unit (s := S1x5120) off S1x512.size inb)).Stores Finset.univ}
    {hm : Finset.univ = Finset.univ ∨ ∀ a, (Rect.unit (s := S1x5120) off S1x512.size inb).stride a = 1}
    {K : PUnit → Prog (TpuEff nD τ sig (Elt F) Λ₀ .tc) PUnit}
    (ho : off = ![0, 512 * (i % 10)]) (hw : w = keepAt σ.A σ.B i 32)
    (h : Ev σ cd (i + 1) 0 (K ⟨⟩)) :
    Ev σ cd i s (Prog.lift (.store σ.a2 (Rect.unit (s := S1x5120) off S1x512.size inb) w Finset.univ hx hm) >>= K) := by
  subst ho
  subst hw
  unfold Ev Holds at *
  iintro ⟨H0, H1, H2, H3⟩
  iapply (wp_store (defs := defs₀ (F := F)) Variants.none (σ.c : Thread nD τ) none σ.E (hx := hx) (hm := hm) (k := K) (Q := σ.Q) (S := σ.a2.view.set) (σ.a2.view.set_slice_subset _)) $$ H2
  iintro H2
  iapply h
  isplitl [H0]; · iexact H0
  isplitl [H1]; · iexact H1
  isplitl [H2]; · iexact H2
  iexact H3

/-- The rest starts with a conditional. -/
theorem ev_cond {p : Prop} {hp : Decidable p} {a b : Prog (TpuEff nD τ sig (Elt F) Λ₀ .tc) α} {K : α → Prog (TpuEff nD τ sig (Elt F) Λ₀ .tc) PUnit}
    (h : Ev σ cd i s (@ite _ p hp a b >>= K)) : Ev σ cd i s (@ite _ p hp a b >>= K) := h

/-- A conditional whose branches go on as `k`, one from the group's own pass and one from the group as it was. -/
theorem ev_group {p : Prop} {hp : Decidable p} {a b : Prog (TpuEff nD τ sig (Elt F) Λ₀ .tc) α} {K : α → Prog (TpuEff nD τ sig (Elt F) Λ₀ .tc) PUnit}
    {x y : FVec F S1x16 .f32} (hy : x = y) {k : FVec F S1x16 .f32 → Prog (TpuEff nD τ sig (Elt F) Λ₀ .tc) α}
    (hx : x = lanesOf s (keepAt σ.A σ.B i s))
    (hb : b = k y) (hc : p = (dirty (sq (diag σ.A σ.B i) s) = 1#1))
    (ha : a = k (solve (sq (diag σ.A σ.B i) s) y))
    (h : Ev σ cd i (s + 1) (k (group (sq (diag σ.A σ.B i) s) (lanesOf s (keepAt σ.A σ.B i s))) >>= K)) :
    Ev σ cd i s (@ite _ p hp a b >>= K) := by
  subst hc
  subst hy
  rw [← hx] at h
  have h' : Ev σ cd i s (k (group (sq (diag σ.A σ.B i) s) x) >>= K) := h
  unfold group at h'
  by_cases hd : dirty (sq (diag σ.A σ.B i) s) = 1#1
  · rw [if_pos hd, ha]; rw [if_pos hd] at h'; exact h'
  · rw [if_neg hd, hb]; rw [if_neg hd] at h'; exact h'

/-- The body's end. -/
theorem ev_done (h : Holds σ cd i ⊢ σ.Q ⟨⟩) : Ev σ cd i s (pure ⟨⟩) :=
  h.trans (le_wp_ret frame (wpE (defs₀ (F := F)) Variants.none σ.c none) σ.E PUnit.unit σ.Q)

end Cert.Proof.Rules
-- ==== Proof.Walk.lean ====
/-
  The walk through the kernel's body, statement by statement: each statement is one rule.
-/
module

public import proofs.«01_k».proof.Proof.Rules

@[expose] public section

set_option maxRecDepth 65536
set_option maxHeartbeats 0

noncomputable section

namespace Cert.Proof.Rules

open Cert.KernelIdeal Cert.KernelIdeal.Gen Cert.Proof.Model
open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds

variable {F : FTy → Type} [FloatOps F]

/-- The group's own lanes are read off the block as it stands, which the rest of the program then names. -/
theorem ev_named {σ : Setting F} {cd : Vec F S512x512 .f32} {i s : ℕ} {v κ : FVec F S1x512 .f32} {off : Fin 2 → ℕ} {hs : S1x512.Slices off S1x16} {y : FVec F S1x16 .f32}
    {X : FVec F S1x512 .f32 → Prog (TpuEff nD τ sig (Elt F) Λ₀ .tc) PUnit}
    (hκ : v = κ) (hv : v = keepAt σ.A σ.B i s)
    (h : extractStridedSlice S1x16 off (keepAt σ.A σ.B i s) hs = y → Ev σ cd i s (X (keepAt σ.A σ.B i s))) :
    extractStridedSlice S1x16 off κ hs = y → Ev σ cd i s (X κ) := by
  subst hκ hv; exact h

/-- The same for a block about to be stored. -/
theorem ev_final {σ : Setting F} {cd : Vec F S512x512 .f32} {i s : ℕ} {v κ : FVec F S1x512 .f32}
    {X : FVec F S1x512 .f32 → Prog (TpuEff nD τ sig (Elt F) Λ₀ .tc) PUnit}
    (hκ : v = κ) (hv : v = keepAt σ.A σ.B i 32) (h : Ev σ cd i s (X (keepAt σ.A σ.B i 32))) : Ev σ cd i s (X κ) := by
  subst hκ hv; exact h

/-- The statement at hand is the store of a block. -/
theorem ev_at_store2 {σ : Setting F} {cd : Vec F S512x512 .f32} {i s : ℕ} {off : Fin 2 → ℕ} {inb : ∀ a, off a + S1x512.size a ≤ S1x5120.size a} {w : FVec F S1x512 .f32}
    {hx : (σ.a2.access (Rect.unit (s := S1x5120) off S1x512.size inb)).Stores Finset.univ}
    {hm : Finset.univ = Finset.univ ∨ ∀ a, (Rect.unit (s := S1x5120) off S1x512.size inb).stride a = 1}
    {K : PUnit → Prog (TpuEff nD τ sig (Elt F) Λ₀ .tc) PUnit}
    (h : Ev σ cd i s (Prog.lift (.store σ.a2 (Rect.unit (s := S1x5120) off S1x512.size inb) w Finset.univ hx hm) >>= K)) :
    Ev σ cd i s (Prog.lift (.store σ.a2 (Rect.unit (s := S1x5120) off S1x512.size inb) w Finset.univ hx hm) >>= K) := h

/-- The body continued by nothing. -/
theorem ev_start {σ : Setting F} {cd : Vec F S512x512 .f32} {i s : ℕ} {p : Prog (TpuEff nD τ sig (Elt F) Λ₀ .tc) PUnit}
    (h : Ev σ cd i s (p >>= fun a => Prog.ret a)) : Ev σ cd i s p := by
  have e : (p >>= fun a => Prog.ret a) = p := bind_pure p
  rw [e] at h; exact h

/-- The end of a body continued by nothing. -/
theorem ev_end {σ : Setting F} {cd : Vec F S512x512 .f32} {i s : ℕ} (h : Holds σ cd i ⊢ σ.Q ⟨⟩) : Ev σ cd i s (Prog.ret ⟨⟩) := ev_done h

/-- The body runs to the setting's end, which holds once the ten blocks are stored. -/
theorem walk (σ : Setting F) (h0 : σ.a0.IsWhole) (h1 : σ.a1.IsWhole) (h2 : σ.a2.IsWhole) (h3 : σ.a3.IsWhole) (cd : Vec F S512x512 .f32)
    (hend : ∀ cd, Holds σ cd 10 ⊢ σ.Q ⟨⟩) :
    Ev σ cd 0 0 (cc0__nms_kernel σ.a0 h0 σ.a1 h1 σ.a2 h2 σ.a3 h3) := by
  unfold cc0__nms_kernel
  apply ev_start
  repeat (first
    | with_reducible apply ev_load3
    | with_reducible apply ev_load0
    | with_reducible apply ev_load1
    | (with_reducible apply ev_load2); intro _
    | (with_reducible apply ev_store3); rfl
    | (with_reducible apply ev_at_store2)
      generalize hκ : mulf (_ : FVec F S1x512 .f32) _ = κ
      (with_reducible apply ev_final hκ); rfl
      clear hκ κ
      (with_reducible apply ev_store2); rfl; rfl
    | (with_reducible apply ev_end); exact hend _
    | with_reducible apply ev_assoc
    | with_reducible apply ev_ret
    | (with_reducible apply ev_cond)
      generalize hy : extractStridedSlice S1x16 _ (_ : FVec F S1x512 .f32) _ = y
      revert hy
      first
      | generalize hκ : sitofp (F := F) .f32 (_ : IVec S1x512 32) = κ
        (with_reducible apply ev_named hκ); rfl
        clear hκ κ
      | generalize hκ : mulf (_ : FVec F S1x512 .f32) _ = κ
        (with_reducible apply ev_named hκ); rfl
        clear hκ κ
      intro hy
      (with_reducible apply ev_group hy); rfl; rfl; rfl; rfl
      clear hy y
    | apply ev_assoc
    | apply ev_ret
    | (apply ev_cond)
      generalize hy : extractStridedSlice S1x16 _ (_ : FVec F S1x512 .f32) _ = y
      revert hy
      first
      | generalize hκ : sitofp (F := F) .f32 (_ : IVec S1x512 32) = κ
        (with_reducible apply ev_named hκ); rfl
        clear hκ κ
      | generalize hκ : mulf (_ : FVec F S1x512 .f32) _ = κ
        (with_reducible apply ev_named hκ); rfl
        clear hκ κ
      intro hy
      (with_reducible apply ev_group hy); rfl; rfl; rfl; rfl
      clear hy y)

end Cert.Proof.Rules

end
-- ==== Proof.Run.lean ====
/-
  The kernel's run, at any interpretation of the floating-point operations: the body's triple from the walk of
  its statements, the pipeline's data, the run, and the frame.
-/
module

public import proofs.«01_k».proof.Proof.Walk

@[expose] public section

set_option maxRecDepth 16384

noncomputable section

namespace Cert.Proof.Run

open Cert.KernelIdeal Cert.KernelIdeal.Gen Cert.Proof.Model Cert.Proof.Rules
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

/-- The ten stores tile the output, so they cover it. -/
theorem cover (A : Vec F S5120x4 .f32) (B : Vec F S4x5120 .f32) (y : S1x5120.Idx) :
    ∃ pc ∈ pieces A B 10, y ∈ pc.1.set :=
  View.cover_of_tiled (pieces A B 10) S1x512.size (by rfl) y

/-- The body on whole buffers, the inputs' at `A` and `B` and the others' at anything, leaves the inputs as they
    were, the output at `outVal A B` and the scratch at something. -/
theorem sound_kernel (c : Dev nD) (E : Set ℕ) (a0 : Memref sig .tc .vmem S5120x4 .f32) (h0 : a0.IsWhole) (a1 : Memref sig .tc .vmem S4x5120 .f32) (h1 : a1.IsWhole)
    (a2 : Memref sig .tc .vmem S1x5120 .f32) (h2 : a2.IsWhole) (a3 : Memref sig .tc .vmem S512x512 .f32) (h3 : a3.IsWhole)
    (A : Vec F S5120x4 .f32) (B : Vec F S4x5120 .f32) (K : sProp 𝕄) (Q : PUnit → sProp 𝕄)
    (hK : iprop(K ∗ owns (c : Thread nD τ) a0 fullShare A ∗ owns (c : Thread nD τ) a1 fullShare B ∗ owns (c : Thread nD τ) a2 fullShare (outVal A B)
      ∗ (∃ d, owns (c : Thread nD τ) a3 fullShare d)) ⊢ Q ⟨⟩) :
    iprop(K ∗ owns (c : Thread nD τ) a0 fullShare A ∗ owns (c : Thread nD τ) a1 fullShare B ∗ (∃ d, owns (c : Thread nD τ) a2 fullShare d)
        ∗ (∃ d, owns (c : Thread nD τ) a3 fullShare d))
      ⊢ wp frame (wpE (defs₀ (F := F)) Variants.none c none) E (cc0__nms_kernel a0 h0 a1 h1 a2 h2 a3 h3) Q := by
  iintro ⟨HK, H0, H1, ⟨%d2, H2⟩, ⟨%cd, H3⟩⟩
  ihave H2' := (show owns (c : Thread nD τ) a2 fullShare d2 ⊢ iprop(∃ g, ⌜a2.view.read (Elt F) g = d2⌝ ∗ a2.view.loc (c : Thread nD τ) ↦[a2.view.set]{fullShare} g : sProp 𝕄) from .rfl) $$ H2
  icases H2' with ⟨%g, -, H2⟩
  have hw := walk (F := F) ⟨c, E, a0, a1, a2, a3, A, B, g, fun _ => iprop(owns (c : Thread nD τ) a0 fullShare A ∗ owns (c : Thread nD τ) a1 fullShare B
    ∗ owns (c : Thread nD τ) a2 fullShare (outVal A B) ∗ (∃ d, owns (c : Thread nD τ) a3 fullShare d))⟩ h0 h1 h2 h3 cd (fun cd' => ?_)
  · unfold Ev Holds at hw
    iapply (wp_wand frame (wpE (defs₀ (F := F)) Variants.none c none) E) $$ [H0 H1 H2 H3]
    · iapply hw
      isplitl [H0]; · iexact H0
      isplitl [H1]; · iexact H1
      isplitl [H2]; · iexact H2
      iexact H3
    iintro %a ⟨H0, H1, H2, H3⟩
    iapply hK
    isplitl [HK]; · iexact HK
    isplitl [H0]; · iexact H0
    isplitl [H1]; · iexact H1
    isplitl [H2]; · iexact H2
    iexact H3
  · unfold Holds
    iintro ⟨H0, H1, H2, H3⟩
    isplitl [H0]; · iexact H0
    isplitl [H1]; · iexact H1
    isplitl [H2]
    · have ho := owns_intro (Ix := Unit) (Name := ℕ) (U := UR sig nD τ) (Lvl := ℕ) (c : Thread nD τ) a2 fullShare
        (a2.view.writes (Elt F) g (pieces A B 10))
      rw [View.read_writes_eq_canon _ _ _ (cover A B)] at ho
      iapply ho
      iexact H2
    iexists _; iexact H3

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outVal (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outVal (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The invariant is the scratch and the generator register. -/
theorem inv_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, show (dats m 0 c).Φ t.castSucc = Pipeline.ΦA spec0 c from rfl, inv_eq]
  iintro ⟨⟨Hs, Hr⟩, Ho, ⟨%d0, H0⟩, ⟨%d1, H1⟩, ⟨%d2, H2⟩⟩
  iapply (sound_kernel c Set.univ _ _ _ _ _ _ _ _ (iblk m c 0 t) (iblk m c 1 t)
    iprop((∃ r, prngReg c r) ∗ (dats m 0 c).owesAt () t.castSucc) _ ?_)
  · iintro ⟨⟨Hr, Ho⟩, H0, H1, H2, Hs⟩
    isplitl [Hs Hr]
    · isplitl [Hs]; · iexact Hs
      iexact Hr
    isplitl [Ho]; · iexact Ho
    isplitl [H0]; · iexact H0
    isplitl [H1]; · iexact H1
    iexact H2
  isplitl [Hr Ho]
  · isplitl [Hr]; · iexact Hr
    iexact Ho
  isplitl [H0]; · iexact H0
  isplitl [H1]; · iexact H1
  isplitl [H2]; · iexists _; iexact H2
  iexact Hs

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with every array at what the library computes from the proof data, every other buffer as
    the lines after the region leave it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1, hostOps1_1, hostOps1_2, hostOps1_3])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) sfx_sub sfx_fresh sfx_keeps
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame, at any interpretation. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.Run

end
-- ==== Proof.Same.lean ====
/-
  The kernel and its idealization are one text, so a run of the idealization at the bits is a run of the kernel.
-/
module

public import proofs.«01_k».proof.Defs
public import proofs.«01_k».proof.Proof.Gen.Kernel
public import proofs.«01_k».proof.Proof.Gen.KernelIdeal

@[expose] public section

set_option maxHeartbeats 4000000
set_option maxRecDepth 65536

noncomputable section

namespace Cert.Proof.Same

open Idealize.ShloMosaic Idealize.SL.Sem

variable {F : FTy → Type} [FloatOps F]

local instance : Cert.Kernel.Facts := Cert.Kernel.Gen.facts
local instance : Cert.KernelIdeal.Facts := Cert.KernelIdeal.Gen.facts

/-- The two mains. -/
theorem main_eq : Cert.Kernel.main (F := F) = Cert.KernelIdeal.main (F := F) := (rfl)

/-- The two tables of bodies. -/
theorem bodies_eq : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig)) (funext fun l => ?_)
  obtain ⟨l, hl⟩ := l
  cases l with
  | zero => exact funext fun a => rfl
  | succ n => exact absurd hl (Nat.not_lt.2 (Nat.le_add_left _ _))

/-- The two tables of definitions. -/
theorem defs_eq : Cert.Kernel.defs (F := F) = Cert.KernelIdeal.defs (F := F) := by
  unfold Cert.Kernel.defs Cert.KernelIdeal.defs
  rw [bodies_eq]
  rfl

/-- A frame of the idealization's text at the bits is the kernel's frame. -/
theorem frame_of
    (h : ∀ (m : (ℓ : Loc Cert.KernelIdeal.nD Cert.KernelIdeal.τ Cert.KernelIdeal.sig) → Buf (Elt Bits) ℓ) (ρ : Dev Cert.KernelIdeal.nD → PrngReg),
      θ_run (Cert.KernelIdeal.defs (F := Bits)) (onTc (τ := Cert.KernelIdeal.τ) (Cert.KernelIdeal.main (F := Bits))) ⟨m, fun _ => 0, ρ⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0)) :
    Cert.quiescent_Kernel := by
  intro m ρ _
  rw [defs_eq, main_eq]
  exact h m ρ

end Cert.Proof.Same

end
-- ==== Proof.Sorted.lean ====
/-
  Both programs sort the boxes by the same host operations: over equal arguments the sorted boxes and the sorted scores
  of the kernel's host stretch are those of the reference's.
-/
module

public import proofs.«01_k».proof.Proof.Gen.KernelIdeal.Launch
public import proofs.«01_k».proof.Proof.Gen.ReferenceIdeal.Run
public import Idealize.ShloMosaic.Lib.StableHlo.ReadAt
public import Idealize.ShloMosaic.Lib.Pointwise

@[expose] public section

set_option maxRecDepth 16384

noncomputable section

namespace Cert.Proof.Sorted

open Idealize.ShloMosaic Idealize.ShloMosaic.TcCoe Idealize.ShloMosaic.StableHlo Idealize.SL.Sem

variable (U : Valuation Cert.KernelIdeal.τ Cert.KernelIdeal.sig (Elt Ideal))
  (W : Valuation Cert.ReferenceIdeal.τ Cert.ReferenceIdeal.sig (Elt Ideal))

/-- The negated scores. -/
theorem neg_eq (h : U (Proc.devRef .tc Cert.KernelIdeal.main_arg1) = W (Proc.devRef .tc Cert.ReferenceIdeal.main_arg1)) :
    after Cert.KernelIdeal.Gen.hostOps0 U (Proc.devRef .tc Cert.KernelIdeal.main_v0)
      = after Cert.ReferenceIdeal.Gen.hostOps0 W (Proc.devRef .tc Cert.ReferenceIdeal.main_v0) := by
  after_reads_simp
  exact congrArg Host.negf h

/-- The order of the boxes. -/
theorem order_eq (h : U (Proc.devRef .tc Cert.KernelIdeal.main_v0) = W (Proc.devRef .tc Cert.ReferenceIdeal.main_v0)) :
    after Cert.KernelIdeal.Gen.hostOps0_1 U (Proc.devRef .tc Cert.KernelIdeal.main_v1)
      = after Cert.ReferenceIdeal.Gen.hostOps0_1 W (Proc.devRef .tc Cert.ReferenceIdeal.main_v1) := by
  after_reads_simp
  generalize U (Proc.devRef .tc Cert.KernelIdeal.main_v0) = u at h ⊢
  subst h
  rfl

/-- The boxes in that order. -/
theorem boxes_eq (h : U (Proc.devRef .tc Cert.KernelIdeal.main_v1) = W (Proc.devRef .tc Cert.ReferenceIdeal.main_v1))
    (h0 : U (Proc.devRef .tc Cert.KernelIdeal.main_arg0) = W (Proc.devRef .tc Cert.ReferenceIdeal.main_arg0)) :
    after Cert.KernelIdeal.Gen.hostOps0_2 U (Proc.devRef .tc Cert.KernelIdeal.main_v2)
      = after Cert.ReferenceIdeal.Gen.hostOps0_2 W (Proc.devRef .tc Cert.ReferenceIdeal.main_v2) := by
  after_reads_simp
  generalize U (Proc.devRef .tc Cert.KernelIdeal.main_v1) = u at h ⊢
  generalize U (Proc.devRef .tc Cert.KernelIdeal.main_arg0) = u0 at h0 ⊢
  subst h h0
  rfl

/-- The scores in that order. -/
theorem scores_eq (h : U (Proc.devRef .tc Cert.KernelIdeal.main_v1) = W (Proc.devRef .tc Cert.ReferenceIdeal.main_v1))
    (h0 : U (Proc.devRef .tc Cert.KernelIdeal.main_arg1) = W (Proc.devRef .tc Cert.ReferenceIdeal.main_arg1)) :
    after Cert.KernelIdeal.Gen.hostOps0_3 U (Proc.devRef .tc Cert.KernelIdeal.main_v3)
      = after Cert.ReferenceIdeal.Gen.hostOps0_3 W (Proc.devRef .tc Cert.ReferenceIdeal.main_v3) := by
  after_reads_simp
  generalize U (Proc.devRef .tc Cert.KernelIdeal.main_v1) = u at h ⊢
  generalize U (Proc.devRef .tc Cert.KernelIdeal.main_arg1) = u0 at h0 ⊢
  subst h h0
  rfl

end Cert.Proof.Sorted

end
-- ==== Proof.RefRun.lean ====
/-
  The reference's run with its semaphore counters: the stretches before the loop, the counted loop and the
  stretches after it as the segments of one launch, which also says that every counter ends at zero; and the
  reference's frame.
-/
module

public import proofs.«01_k».proof.Proof.Gen.ReferenceIdeal.Run
public import Idealize.ShloMosaic.Lib.Quiescent

@[expose] public section

set_option maxRecDepth 16384

noncomputable section

namespace Cert.Proof.RefRun

open Cert.ReferenceIdeal Cert.ReferenceIdeal.Gen Cert.ReferenceIdeal.Value
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg ucRefs)

variable {F : FTy → Type} [FloatOps F]

local notation "𝕄" => MT nD τ sig Unit (Elt F) ℕ (Option PUnit) ℕ

variable (m : (ℓ : Loc nD τ sig) → Buf (Elt F) ℓ) (ρ : Dev nD → PrngReg)

/-! ## The launch's data: no pipeline, so nothing to admit, no ticket, no level -/

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev lvs : GSem nD τ sig → Finset Unit := fun _ => ∅
abbrev lvn : GSem nD τ sig → Unit → ℕ := fun _ _ => 0

theorem cells_inj : Function.Injective (Pipeline.cellOf (nD := nD) (τ := τ) (Pipeline.pin (pcfgs (F := F)) adm)) :=
  fun k => k.1.elim0

/-- What rides beside the buffers: the core owes nothing. -/
abbrev idle (c : Dev nD) : sProp 𝕄 := iprop(∃ W, owes (c : Thread nD τ) (0 : CellTallies nD τ sig Unit) W)

/-- The condition's specification with what rides beside the buffers. -/
theorem cond_idle : LoopCond (pcfgs (F := F)) defs₀ Variants.none loops idle (main_while0_cond (F := F)) condOps bodyI (entryContents preI m) 5000 :=
  fun k hk c bd => by
    have hc := cond_spec m k hk c bd
    iintro ⟨Hb, Hh, Hi⟩
    iapply (wp_wand frame (wpE (HostLoop.defs loops (Pipeline.defs (pcfgs (F := F)) defs₀)) (Variants.lift Variants.none) (c : Thread nD τ) bd) Set.univ) $$ [Hb Hh]
    · iapply hc
      isplitl [Hb]; · iexact Hb
      iexact Hh
    iintro %v ⟨%hv, Hb, Hh⟩
    isplitr; · ipureintro; exact hv
    isplitl [Hb]; · iexact Hb
    isplitl [Hh]; · iexact Hh
    iexact Hi

/-- The stretches before the loop, the loop, the stretches after it. -/
def segs : List (CSeg (pcfgs (F := F)) adm defs₀ Variants.none lvs lvn loops tk) :=
  segsOf _ _ _ _ _ _ _ _ idle preI hpre (launchContents m)
    ++ loopSeg _ _ _ _ _ _ _ _ 0 main_while0_cond main_while0_body rfl condOps bodyI hbodyI (by rw [while0_body_chain]; rfl) 5000 (entryContents preI m) idle (cond_idle m)
      :: segsOf _ _ _ _ _ _ _ _ idle postI hpost (fun c => after condOps (atK m 5000 c))

/-- The contents at the end. -/
abbrev atEnd (c : Dev nD) : Valuation τ sig (Elt F) := finalContents condOps preI bodyI postI 5000 m c

theorem segs_prog : (segs m).map CSeg.prog
    = (preI.map fun ops => (seq ops : Prog _ PUnit)) ++ HostLoop.enter 0 :: postI.map fun ops => (seq ops : Prog _ PUnit) := by
  unfold segs
  rw [List.map_append, List.map_cons, segsOf_prog, segsOf_prog]
  rfl

theorem segs_chains : CSeg.Chains (fun c => iprop(held (c : Thread nD τ) (ucRefs τ sig) (launchContents m c) ∗ idle c)) (segs m)
    (fun c => iprop(iprop(held (c : Thread nD τ) (ucRefs τ sig) (atEnd m c)) ∗ ∃ W, owes (c : Thread nD τ) (0 : CellTallies nD τ sig Unit) W)) := by
  unfold segs
  exact CSeg.Chains.append (segsOf_chains _ _ _ _ _ _ _ _ idle preI hpre _) ⟨fun _ => .rfl, segsOf_chains _ _ _ _ _ _ _ _ idle postI hpost _⟩

set_option maxRecDepth 100000 in
/-- Every weakly fair execution ends with the buffers at the fold of the operations and every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = atEnd m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cells_inj defs₀ Variants.none lvs lvn loops tk m ρ main (segs m)
    (fun c Q => by
      rw [show main (F := F) c = Pipeline.chain ((segs m).map CSeg.prog) from by rw [segs_prog, main_chain]; rfl]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ idle c))
    (Tₙ := fun c => iprop(held (c : Thread nD τ) (ucRefs τ sig) (atEnd m c)))
    (hch := segs_chains m)
    (hinit := by
      refine Pipeline.initEach lvs lvn fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), sem_eq_zero hs fun c sm hsm => by
      cases sm with
      | reg s => exact s.elim0
      | dma s => exact s.elim0⟩)

/-! ## What is left alone -/

theorem hostOps0_7_writes : (hostOps0_7 : List (HloOp τ sig (Elt F))).Forall fun op => op.writes ⊆ (([main_v91, main_cst_7] : List (Ref sig .tc)).map (Proc.devRef (τ := τ) .tc)).toFinset :=
  StableHlo.forall_writes_sub_of_map rfl
theorem hostOps0_8_writes : (hostOps0_8 : List (HloOp τ sig (Elt F))).Forall fun op => op.writes ⊆ (([main_call5_v0, main_call5_v1, main_call5_v2, main_v92] : List (Ref sig .tc)).map (Proc.devRef (τ := τ) .tc)).toFinset :=
  StableHlo.forall_writes_sub_of_map rfl
theorem hostOps0_9_writes : (hostOps0_9 : List (HloOp τ sig (Elt F))).Forall fun op => op.writes ⊆ (([main_cst_8] : List (Ref sig .tc)).map (Proc.devRef (τ := τ) .tc)).toFinset :=
  StableHlo.forall_writes_sub_of_map rfl
theorem hostOps0_10_writes : (hostOps0_10 : List (HloOp τ sig (Elt F))).Forall fun op => op.writes ⊆ (([main_call6_v0, main_call6_v1, main_v93] : List (Ref sig .tc)).map (Proc.devRef (τ := τ) .tc)).toFinset :=
  StableHlo.forall_writes_sub_of_map rfl

/-- A buffer that neither the condition nor the body writes keeps its contents through the loop's trips. -/
theorem atK_keep (c : Dev nD) (b : Ref sig .tc) (hc : b ∉ condOps_W) (h0 : b ∉ while0Ops0_W) (h1 : b ∉ while0Ops0_1_W) (h2 : b ∉ while0Ops0_2_W) :
    ∀ k, atK m k c (Proc.devRef .tc b) = entryContents preI m c (Proc.devRef .tc b)
  | 0 => rfl
  | k + 1 => by
    show after while0Ops0_2 (after while0Ops0_1 (after while0Ops0 (after condOps (atK m k c)))) (Proc.devRef .tc b) = _
    rw [after_of_writes_sub _ _ while0Ops0_2_writes h2, after_of_writes_sub _ _ while0Ops0_1_writes h1, after_of_writes_sub _ _ while0Ops0_writes h0,
      after_of_writes_sub _ _ condOps_writes hc, atK_keep c b hc h0 h1 h2 k]

/-- A buffer that the stretches after the loop and the condition do not write ends as the last trip leaves it. -/
theorem atEnd_keep (c : Dev nD) (b : Ref sig .tc) (hc : b ∉ condOps_W) (h7 : b ∉ [main_v91, main_cst_7])
    (h8 : b ∉ [main_call5_v0, main_call5_v1, main_call5_v2, main_v92]) (h9 : b ∉ [main_cst_8]) (h10 : b ∉ [main_call6_v0, main_call6_v1, main_v93]) :
    atEnd m c (Proc.devRef .tc b) = atK m 5000 c (Proc.devRef .tc b) := by
  simp only [atEnd, finalContents, postI, afterL_cons, afterL_nil]
  rw [after_of_writes_sub _ _ hostOps0_10_writes h10, after_of_writes_sub _ _ hostOps0_9_writes h9, after_of_writes_sub _ _ hostOps0_8_writes h8,
    after_of_writes_sub _ _ hostOps0_7_writes h7, after_of_writes_sub _ _ condOps_writes hc]

/-- A buffer that the stretches before the loop do not write is as it was at the launch. -/
theorem entry_keep (c : Dev nD) (b : Ref sig .tc) (h0 : b ∉ hostOps0_W) (h1 : b ∉ hostOps0_1_W) (h2 : b ∉ hostOps0_2_W) (h3 : b ∉ hostOps0_3_W)
    (h4 : b ∉ hostOps0_4_W) (h5 : b ∉ hostOps0_5_W) (h6 : b ∉ hostOps0_6_W) :
    entryContents preI m c (Proc.devRef .tc b) = m ((c.tc : Thread nD τ).loc b) := by
  simp only [entryContents, preI, afterL_cons, afterL_nil]
  rw [after_of_writes_sub _ _ hostOps0_6_writes h6, after_of_writes_sub _ _ hostOps0_5_writes h5, after_of_writes_sub _ _ hostOps0_4_writes h4,
    after_of_writes_sub _ _ hostOps0_3_writes h3, after_of_writes_sub _ _ hostOps0_2_writes h2, after_of_writes_sub _ _ hostOps0_1_writes h1,
    after_of_writes_sub _ _ hostOps0_writes h0]

theorem atEnd_arg0 (c : Dev nD) : atEnd m c (Proc.devRef .tc main_arg0) = m ((c.tc : Thread nD τ).loc main_arg0) :=
  (atEnd_keep m c main_arg0 (by decide) (by decide) (by decide) (by decide) (by decide)).trans
    ((atK_keep m c main_arg0 (by decide) (by decide) (by decide) (by decide) 5000).trans
      (entry_keep m c main_arg0 (by decide) (by decide) (by decide) (by decide) (by decide) (by decide) (by decide)))

theorem atEnd_arg1 (c : Dev nD) : atEnd m c (Proc.devRef .tc main_arg1) = m ((c.tc : Thread nD τ).loc main_arg1) :=
  (atEnd_keep m c main_arg1 (by decide) (by decide) (by decide) (by decide) (by decide)).trans
    ((atK_keep m c main_arg1 (by decide) (by decide) (by decide) (by decide) 5000).trans
      (entry_keep m c main_arg1 (by decide) (by decide) (by decide) (by decide) (by decide) (by decide) (by decide)))

/-- The frame: the arguments end as they were and every counter is zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun _ h => ⟨fun c => ⟨(h.1 c main_arg0 rfl).trans (atEnd_arg0 m c), (h.1 c main_arg1 rfl).trans (atEnd_arg1 m c)⟩, h.2⟩) (run m ρ)

end Cert.Proof.RefRun
end
-- ==== Proof.Greedy.lean ====
/-
  The greedy selection over numbered boxes, and indicators (one where a proposition holds, zero elsewhere) as
  extended reals: the mathematics that the kernel's and the reference's values both come down to.
-/
module

public import Idealize.ShloMosaic.Lib.Pointwise

@[expose] public section

noncomputable section

namespace Cert.Proof.Greedy

open Classical

/-! ## The selection -/

/-- Box `j` is kept: no kept box before it suppresses it (`C i j`: box `i`, if kept, suppresses box `j`). -/
def Kept (C : ℕ → ℕ → Prop) (j : ℕ) : Prop := ∀ i, (h : i < j) → Kept C i → ¬ C i j
termination_by j

/-- Box `j` is suppressed by none of the first `n` boxes. -/
def Free (C : ℕ → ℕ → Prop) (n j : ℕ) : Prop := ∀ i, i < n → i < j → Kept C i → ¬ C i j

variable (C : ℕ → ℕ → Prop)

theorem kept_iff (j : ℕ) : Kept C j ↔ ∀ i, i < j → Kept C i → ¬ C i j := by rw [Kept]

theorem free_zero (j : ℕ) : Free C 0 j ↔ True := ⟨fun _ => trivial, fun _ i h => absurd h (Nat.not_lt_zero i)⟩

/-- One more box. -/
theorem free_succ (n j : ℕ) : Free C (n + 1) j ↔ Free C n j ∧ ¬ (Kept C n ∧ C n j ∧ n < j) := by
  constructor
  · intro h
    exact ⟨fun i hi => h i (by omega), fun ⟨hk, hc, hl⟩ => h n (by omega) hl hk hc⟩
  · rintro ⟨h, hn⟩ i hi hl hk hc
    rcases Nat.lt_succ_iff_lt_or_eq.1 hi with hi | rfl
    · exact h i hi hl hk hc
    · exact hn ⟨hk, hc, hl⟩

/-- Once the first `n` boxes include all before `j`, nothing can suppress `j` any more. -/
theorem free_of_le {n j : ℕ} (h : j ≤ n) : Free C n j ↔ Kept C j := by
  rw [kept_iff]
  exact ⟨fun hf i hi => hf i (by omega) hi, fun hf i _ hi => hf i hi⟩

/-- Sixteen more boxes (any number of them) at once. -/
theorem free_add (a n j : ℕ) : Free C (a + n) j ↔ Free C a j ∧ ∀ r : Fin n, ¬ (Kept C (a + r) ∧ C (a + r) j ∧ a + r < j) := by
  constructor
  · intro h
    exact ⟨fun i hi => h i (by omega), fun r ⟨hk, hc, hl⟩ => h _ (by omega) hl hk hc⟩
  · rintro ⟨h, hn⟩ i hi hl hk hc
    by_cases hia : i < a
    · exact h i hia hl hk hc
    · refine hn ⟨i - a, by omega⟩ ?_
      simp only [show a + (i - a) = i by omega]
      exact ⟨hk, hc, hl⟩

/-! ## Indicators -/

/-- One where `p` holds, zero elsewhere. -/
def ind (p : Prop) : EReal := if p then 1 else 0

theorem ind_congr {p q : Prop} (h : p ↔ q) : ind p = ind q := by rw [propext h]

theorem ind_of {p : Prop} (h : p) : ind p = 1 := if_pos h
theorem ind_of_not {p : Prop} (h : ¬ p) : ind p = 0 := if_neg h

theorem ind_mul (p q : Prop) : ind p * ind q = ind (p ∧ q) := by
  by_cases hp : p <;> by_cases hq : q <;> simp [ind, hp, hq]

theorem one_sub_ind (p : Prop) : 1 - ind p = ind (¬ p) := by
  by_cases hp : p <;> simp [ind, hp]
  exact EReal.sub_self (by decide) (by decide)

theorem ind_nonneg (p : Prop) : 0 ≤ ind p := by
  by_cases hp : p <;> simp [ind, hp]

theorem ind_eq_zero (p : Prop) : ind p = 0 ↔ ¬ p := by
  by_cases hp : p <;> simp [ind, hp]

theorem sum_ind_nonneg {n : ℕ} (p : Fin n → Prop) : 0 ≤ ∑ k, ind (p k) := Finset.sum_nonneg fun k _ => ind_nonneg (p k)

theorem sum_ind_eq_zero {n : ℕ} (p : Fin n → Prop) : ∑ k, ind (p k) = 0 ↔ ∀ k, ¬ p k := by
  rw [Finset.sum_eq_zero_iff_of_nonneg fun k _ => ind_nonneg (p k)]
  exact ⟨fun h k => (ind_eq_zero _).1 (h k (Finset.mem_univ k)), fun h k _ => (ind_eq_zero _).2 (h k)⟩

theorem sum_sum_ind_pos {n n' : ℕ} (p : Fin n → Fin n' → Prop) : 0 < ∑ k, ∑ l, ind (p k l) ↔ ¬ ∀ k l, ¬ p k l := by
  have hn : ∀ k ∈ Finset.univ, 0 ≤ ∑ l, ind (p k l) := fun k _ => sum_ind_nonneg (p k)
  rw [lt_iff_le_and_ne]
  constructor
  · rintro ⟨-, h⟩ hp
    exact h ((Finset.sum_eq_zero_iff_of_nonneg hn).2 fun k _ => (sum_ind_eq_zero _).2 (hp k)).symm
  · intro h
    refine ⟨Finset.sum_nonneg hn, fun h0 => h fun k => (sum_ind_eq_zero _).1 ((Finset.sum_eq_zero_iff_of_nonneg hn).1 h0.symm k (Finset.mem_univ k))⟩

theorem add_eq_zero_nonneg {a b : EReal} (ha : 0 ≤ a) (hb : 0 ≤ b) : a + b = 0 ↔ a = 0 ∧ b = 0 := add_eq_zero_iff_of_nonneg ha hb

/-! ## When a box suppresses another -/

open Idealize.ShloMosaic in
/-- Box `c` lies inside box `r`, or overlaps it by more than nine tenths (a box: left, top, right, bottom). -/
def Hits (r c : Fin 4 → EReal) : Prop :=
  (((r 0 ≤ c 0 ∧ r 1 ≤ c 1) ∧ c 2 ≤ r 2) ∧ c 3 ≤ r 3) ∨
    Ideal.ofBits FTy.f32 1063675494#32 <
      if 0 < max (min (r 2) (c 2) - max (r 0) (c 0)) 0 * max (min (r 3) (c 3) - max (r 1) (c 1)) 0 then
        Ideal.div (max (min (r 2) (c 2) - max (r 0) (c 0)) 0 * max (min (r 3) (c 3) - max (r 1) (c 1)) 0)
          (max ((r 2 - r 0) * (r 3 - r 1) + (c 2 - c 0) * (c 3 - c 1)
            - max (min (r 2) (c 2) - max (r 0) (c 0)) 0 * max (min (r 3) (c 3) - max (r 1) (c 1)) 0)
            (Ideal.ofBits FTy.f32 730643660#32))
      else 0

/-! ## Words of one bit -/

open Idealize.ShloMosaic in
theorem float_of_bit (w : BitVec 1) : (FloatOps.sitofp FTy.f32 (BitVec.setWidth 32 w) : Ideal FTy.f32) = ind (w = 1#1) := by
  show (((BitVec.setWidth 32 w).toInt : ℝ) : EReal) = _
  rcases BitVec.eq_zero_or_eq_one w with rfl | rfl
  · rw [ind_of_not (by decide)]; simp
  · rw [ind_of rfl]; simp

theorem ofBool_eq_one (p : Prop) [Decidable p] : BitVec.ofBool (decide p) = 1#1 ↔ p := by
  by_cases h : p <;> simp [h]

open Idealize.ShloMosaic in
theorem andi_eq_one (x y : BitVec 1) : IntOp.andi x y = 1#1 ↔ x = 1#1 ∧ y = 1#1 := by
  revert x y; decide

open Idealize.ShloMosaic in
theorem ori_eq_one (x y : BitVec 1) : IntOp.ori x y = 1#1 ↔ x = 1#1 ∨ y = 1#1 := by
  revert x y; decide

/-! ## The boxes of an array -/

/-- Box `n` of an array of five thousand; all zeros beyond it. -/
def box (b : Fin 5000 → Fin 4 → EReal) (n : ℕ) (k : Fin 4) : EReal := if h : n < 5000 then b ⟨n, h⟩ k else 0

/-- The greedy selection keeps box `j` of the array. -/
def Stays (b : Fin 5000 → Fin 4 → EReal) (j : ℕ) : Prop := Kept (fun a c => Hits (box b a) (box b c)) j

theorem box_of_fin (b : Fin 5000 → Fin 4 → EReal) (n : Fin 5000) : box b n = b n :=
  funext fun k => dif_pos n.isLt

/-- A bit is settled by when it is one. -/
theorem bit_ext {p : Prop} {x y : BitVec 1} (hx : x = 1#1 ↔ p) (hy : y = 1#1 ↔ p) : x = y := by
  rcases BitVec.eq_zero_or_eq_one x with rfl | rfl <;> rcases BitVec.eq_zero_or_eq_one y with rfl | rfl <;> simp_all

end Cert.Proof.Greedy

end
-- ==== Proof.RefValue.lean ====
/-
  What the reference computes: the matrix it builds before its loop says which box suppresses which, a trip of the loop
  is a step of the greedy selection, and its three results are the kept boxes, their scores and the bits that keep them.
-/
module

public import proofs.«01_k».proof.Proof.RefRun
public import proofs.«01_k».proof.Proof.Greedy
public import Idealize.ShloMosaic.Lib.StableHlo.ReadAt
public import Idealize.ShloMosaic.Lib.Pointwise
public import Idealize.ShloMosaic.Lib.WordCmp

@[expose] public section

set_option maxRecDepth 16384

noncomputable section

namespace Cert.Proof.RefValue

open Cert.ReferenceIdeal Cert.ReferenceIdeal.Gen Cert.ReferenceIdeal.Value Cert.Proof.Greedy Cert.Proof.RefRun
open Idealize.ShloMosaic Idealize.ShloMosaic.TcCoe Idealize.ShloMosaic.StableHlo Idealize.SL.Sem
open Classical

variable (W : Valuation τ sig (Elt Ideal))

/-! ## The stretches before the loop -/

/-- The zero the `where`s select. -/
theorem zero_const : (id (constant (F := Ideal) S_ FTy.f32 0#32) ix0 : EReal) = 0 := by
  simp only [id]
  pointwise

/-- A selection by a bit that is one just where `p` holds. -/
theorem select_of_bit (p : Prop) (w : BitVec 1) (h : w = 1#1 ↔ p) (x y : EReal) : Scalar.select w x y = if p then x else y := by
  show (if w = 1#1 then x else y) = _
  by_cases hp : p
  · rw [if_pos hp, if_pos (h.2 hp)]
  · rw [if_neg hp, if_neg (fun e => hp (h.1 e))]

/-- The overlap of two boxes. -/
theorem overlap_entry (i j : Fin 5000) : (after hostOps0_5 (after hostOps0_4 W) (Proc.devRef .tc main_v53) (ix2 i j) : EReal)
    = (fun (r c : Fin 4 → EReal) => if 0 < max (min (r 2) (c 2) - max (r 0) (c 0)) 0 * max (min (r 3) (c 3) - max (r 1) (c 1)) 0 then
        Ideal.div (max (min (r 2) (c 2) - max (r 0) (c 0)) 0 * max (min (r 3) (c 3) - max (r 1) (c 1)) 0)
          (max ((r 2 - r 0) * (r 3 - r 1) + (c 2 - c 0) * (c 3 - c 1)
            - max (min (r 2) (c 2) - max (r 0) (c 0)) 0 * max (min (r 3) (c 3) - max (r 1) (c 1)) 0)
            (Ideal.ofBits FTy.f32 730643660#32))
      else 0) (fun k => W (Proc.devRef .tc main_v2) (ix2 i k)) (fun k => W (Proc.devRef .tc main_v2) (ix2 j k)) := by
  after_reads_at
  simp only [max_comm (0 : EReal)]
  rw [zero_const]

theorem v2_through5 : after hostOps0_5 (after hostOps0_4 W) (Proc.devRef .tc main_v2) = W (Proc.devRef .tc main_v2) := by
  rw [after_of_writes_sub _ _ hostOps0_5_writes (by decide), after_of_writes_sub _ _ hostOps0_4_writes (by decide)]

/-- The matrix the loop carries: which box suppresses which. -/
theorem matrix_entry (i j : Fin 5000) :
    after hostOps0_6 (after hostOps0_5 (after hostOps0_4 W)) (Proc.devRef .tc main_v90_0) (ix2 i j) = 1#1
      ↔ Hits (fun k => W (Proc.devRef .tc main_v2) (ix2 i k)) (fun k => W (Proc.devRef .tc main_v2) (ix2 j k)) := by
  have ho := overlap_entry W i j
  have hv := v2_through5 W
  generalize after hostOps0_5 (after hostOps0_4 W) = X at ho hv ⊢
  have hid : after hostOps0_6 X (Proc.devRef .tc main_v90_0) = after hostOps0_6 X (Proc.devRef .tc main_v87) := by
    after_reads_simp
    rfl
  rw [hid]
  after_reads_at
  rw [ori_eq_one, andi_eq_one, andi_eq_one, andi_eq_one]
  simp only [ofBool_eq_one]
  rw [ho, hv]
  exact Iff.rfl

theorem lanes_entry (j : Fin 5000) : after hostOps0_6 W (Proc.devRef .tc main_v90_1) (ix1 j) = BitVec.ofNat 32 j := by
  after_reads_at
  show iotaInDim S5000 32 0 (ix1 j) = _
  pointwise

theorem index_entry : after hostOps0_6 W (Proc.devRef .tc main_v90_3) = fun _ => BitVec.ofNat 32 0 := by
  after_reads_simp
  rfl

theorem ones_entry (j : Fin 5000) : after hostOps0_6 W (Proc.devRef .tc main_v90_4) (ix1 j) = 1#1 := by
  after_reads_at
  show broadcastInDim S5000 ![] bcast_S_S5000 (constantI S_ 1 1#1) (ix1 j) = _
  pointwise

/-! ## One trip of the loop -/

/-- The index of trip `k`, wrapped as a negative index would be, is `k`. -/
theorem wrapped (k : ℕ) (hk : k < 5000) :
    (Scalar.select (IntOp.cmpi CmpIPredicate.slt (BitVec.ofNat 32 k) 0#32) (IntOp.addi (BitVec.ofNat 32 k) 5000#32) (BitVec.ofNat 32 k)).toInt = (k : ℤ) := by
  have h : ¬ IntOp.cmpi CmpIPredicate.slt (BitVec.ofNat 32 k) 0#32 = 1#1 := by
    rw [show (0#32 : BitVec 32) = BitVec.ofNat 32 0 from rfl, WordCmp.cmpi_slt_ofNat_eq_one_iff (by simp; omega) (by simp)]
    omega
  rw [show ∀ a b : BitVec 32, Scalar.select (IntOp.cmpi CmpIPredicate.slt (BitVec.ofNat 32 k) 0#32) a b = b from fun a b => if_neg h]
  rw [BitVec.toInt_eq_toNat_of_lt (by rw [BitVec.toNat_ofNat]; omega), BitVec.toNat_ofNat]
  omega

theorem step_keep (k : ℕ) (hk : k < 5000) (hi : W (Proc.devRef .tc main_v90_3) = fun _ => BitVec.ofNat 32 k) (j : Fin 5000) :
    step_main_v90_4 W (ix1 j) = Scalar.select (W (Proc.devRef .tc main_v90_4) (ix1 ⟨k, hk⟩))
        (IntOp.andi (W (Proc.devRef .tc main_v90_4) (ix1 j))
          (~~~IntOp.andi (W (Proc.devRef .tc main_v90_0) (ix2 ⟨k, hk⟩ j))
            (IntOp.cmpi CmpIPredicate.sgt (W (Proc.devRef .tc main_v90_1) (ix1 j)) (BitVec.ofNat 32 k))))
        (W (Proc.devRef .tc main_v90_4) (ix1 j)) := by
  unfold step_main_v90_4 res_main_while0b_v95
  rw [hi]
  simp only [id]
  pointwise
  have e : ∀ (x x' : Fin 5000) (y y' : S5000x5000.Idx), x = x' → y = y' →
      Scalar.select (W (Proc.devRef .tc main_v90_4) (ix1 x)) (IntOp.andi (W (Proc.devRef .tc main_v90_4) (ix1 j))
        (~~~IntOp.andi (W (Proc.devRef .tc main_v90_0) y) (IntOp.cmpi CmpIPredicate.sgt (W (Proc.devRef .tc main_v90_1) (ix1 j)) (BitVec.ofNat 32 k))))
        (W (Proc.devRef .tc main_v90_4) (ix1 j))
      = Scalar.select (W (Proc.devRef .tc main_v90_4) (ix1 x')) (IntOp.andi (W (Proc.devRef .tc main_v90_4) (ix1 j))
        (~~~IntOp.andi (W (Proc.devRef .tc main_v90_0) y') (IntOp.cmpi CmpIPredicate.sgt (W (Proc.devRef .tc main_v90_1) (ix1 j)) (BitVec.ofNat 32 k))))
        (W (Proc.devRef .tc main_v90_4) (ix1 j)) := by
    rintro x _ y _ rfl rfl; rfl
  refine e _ _ _ _ ?_ ?_
  · refine Fin.ext ?_
    dsimp only
    rw [Host.clampedStart_of_le _ _ _ k (wrapped k hk) (by show k + 1 ≤ 5000; omega)]
  · refine congrArg₂ ix2 ?_ ?_
    · refine Fin.ext ?_
      dsimp only
      rw [Host.clampedStart_of_le _ _ _ k]
      · exact wrapped k hk
      · show k + 1 ≤ 5000; omega
    · refine Fin.ext ?_
      dsimp only
      rw [Host.clampedStart_of_le _ _ _ 0]
      · exact Nat.zero_add _
      · rfl
      · exact Nat.le_refl 5000

/-- A trip keeps a box just where it was kept and the trip's own box is not both kept and suppressing it. -/
theorem bit_step (a b c : BitVec 1) (g : BitVec 1) :
    Scalar.select a (IntOp.andi b (~~~IntOp.andi c g)) b = 1#1 ↔ b = 1#1 ∧ ¬ (a = 1#1 ∧ c = 1#1 ∧ g = 1#1) := by
  show (if a = 1#1 then IntOp.andi b (~~~IntOp.andi c g) else b) = 1#1 ↔ _
  revert a b c g; decide

/-! ## All the trips -/

/-- Before trip `k` the carried matrix, lane numbers and index are as they should be and the bits are those of the
    boxes that none of the first `k` kept boxes suppresses. -/
theorem trips (C : ℕ → ℕ → Prop) (h0 : ∀ i j : Fin 5000, W (Proc.devRef .tc main_v90_0) (ix2 i j) = 1#1 ↔ C i j)
    (h1 : ∀ j : Fin 5000, W (Proc.devRef .tc main_v90_1) (ix1 j) = BitVec.ofNat 32 j)
    (h3 : W (Proc.devRef .tc main_v90_3) = fun _ => BitVec.ofNat 32 0) (h4 : ∀ j : Fin 5000, W (Proc.devRef .tc main_v90_4) (ix1 j) = 1#1) :
    ∀ k ≤ 5000, (STEP^[k] W (Proc.devRef .tc main_v90_0) = W (Proc.devRef .tc main_v90_0)
      ∧ STEP^[k] W (Proc.devRef .tc main_v90_1) = W (Proc.devRef .tc main_v90_1)
      ∧ STEP^[k] W (Proc.devRef .tc main_v90_3) = fun _ => BitVec.ofNat 32 k)
      ∧ ∀ j : Fin 5000, STEP^[k] W (Proc.devRef .tc main_v90_4) (ix1 j) = 1#1 ↔ Free C k j
  | 0, _ => ⟨⟨rfl, rfl, h3⟩, fun j => iff_of_true (h4 j) ((free_zero _ _).2 trivial)⟩
  | k + 1, hk => by
    obtain ⟨⟨e0, e1, e3⟩, e4⟩ := trips C h0 h1 h3 h4 k (by omega)
    rw [Function.iterate_succ_apply']
    generalize STEP^[k] W = X at e0 e1 e3 e4 ⊢
    refine ⟨⟨(STEP_main_v90_0 X).trans e0, (STEP_main_v90_1 X).trans e1, ?_⟩, fun j => ?_⟩
    · rw [STEP_main_v90_3, step_main_v90_3, e3]
      funext x
      show BitVec.ofNat 32 k + 1#32 = BitVec.ofNat 32 (k + 1)
      rw [BitVec.ofNat_add]
    · rw [STEP_main_v90_4, step_keep X k (by omega) e3 j, bit_step, e4 j, e4 ⟨k, by omega⟩, e0, e1, h0, h1,
        WordCmp.cmpi_sgt_ofNat_eq_one_iff (by have := j.isLt; simp; omega) (by simp; omega), free_succ, free_of_le _ (Nat.le_refl k)]

/-! ## The results -/

variable (m : (ℓ : Loc nD τ sig) → Buf (Elt Ideal) ℓ) (c : Dev nD)

/-- The contents once the boxes and the scores are sorted. -/
def sorted : Valuation τ sig (Elt Ideal) := after hostOps0_3 (after hostOps0_2 (after hostOps0_1 (after hostOps0 (launchContents m c))))

theorem entry_eq : entryContents preI m c = after hostOps0_6 (after hostOps0_5 (after hostOps0_4 (sorted m c))) := by
  simp only [entryContents, preI, afterL_cons, afterL_nil, sorted]

/-- The sorted boxes. -/
def boxes (i : Fin 5000) (k : Fin 4) : EReal := sorted m c (Proc.devRef .tc main_v2) (ix2 i k)

/-- The sorted scores. -/
def scores (i : Fin 5000) : EReal := sorted m c (Proc.devRef .tc main_v3) (ix1 i)

theorem bits_atK (j : Fin 5000) : atK m 5000 c (Proc.devRef .tc main_v90_4) (ix1 j) = 1#1 ↔ Stays (boxes m c) j := by
  rw [atK_agree m c 5000 main_v90_4 (by decide), entry_eq]
  rw [(trips _ (fun a b => Hits (box (boxes m c) a) (box (boxes m c) b)) (fun i j => by rw [matrix_entry, box_of_fin, box_of_fin]; exact Iff.rfl) (fun j => lanes_entry _ j) (index_entry _)
    (fun j => ones_entry _ j) 5000 (Nat.le_refl _)).2 j]
  exact free_of_le _ (Nat.le_of_lt j.isLt)

theorem v2_atK : atK m 5000 c (Proc.devRef .tc main_v2) = sorted m c (Proc.devRef .tc main_v2) := by
  rw [atK_keep m c main_v2 (by decide) (by decide) (by decide) (by decide), entry_eq, after_of_writes_sub _ _ hostOps0_6_writes (by decide), v2_through5]

theorem v3_atK : atK m 5000 c (Proc.devRef .tc main_v3) = sorted m c (Proc.devRef .tc main_v3) := by
  rw [atK_keep m c main_v3 (by decide) (by decide) (by decide) (by decide), entry_eq, after_of_writes_sub _ _ hostOps0_6_writes (by decide),
    after_of_writes_sub _ _ hostOps0_5_writes (by decide), after_of_writes_sub _ _ hostOps0_4_writes (by decide)]

theorem end_eq : atEnd m c = after hostOps0_10 (after hostOps0_9 (after hostOps0_8 (after hostOps0_7 (after condOps (atK m 5000 c))))) := by
  simp only [atEnd, finalContents, postI, afterL_cons, afterL_nil]

/-- The bits. -/
theorem bits_end (j : Fin 5000) : atEnd m c (Proc.devRef .tc main_v90_4) (ix1 j) = 1#1 ↔ Stays (boxes m c) j := by
  rw [atEnd_keep m c main_v90_4 (by decide) (by decide) (by decide) (by decide) (by decide)]
  exact bits_atK m c j

/-- The boxes. -/
theorem boxes_end (j : Fin 5000) (k : Fin 4) :
    (atEnd m c (Proc.devRef .tc main_v92) (ix2 j k) : EReal) = if Stays (boxes m c) j then boxes m c j k else 0 := by
  rw [end_eq]
  have hb : after condOps (atK m 5000 c) (Proc.devRef .tc main_v90_4) (ix1 j) = 1#1 ↔ Stays (boxes m c) j := by
    rw [after_of_writes_sub _ _ condOps_writes (by decide)]; exact bits_atK m c j
  have hv : after condOps (atK m 5000 c) (Proc.devRef .tc main_v2) (ix2 j k) = boxes m c j k := by
    rw [after_of_writes_sub _ _ condOps_writes (by decide), v2_atK]; rfl
  generalize after condOps (atK m 5000 c) = X at hb hv ⊢
  after_reads_at
  refine (select_of_bit _ _ hb _ _).trans ?_
  rw [hv, zero_const]

/-- The scores. -/
theorem scores_end (j : Fin 5000) :
    (atEnd m c (Proc.devRef .tc main_v93) (ix1 j) : EReal) = if Stays (boxes m c) j then scores m c j else 0 := by
  rw [end_eq]
  have hb : after condOps (atK m 5000 c) (Proc.devRef .tc main_v90_4) (ix1 j) = 1#1 ↔ Stays (boxes m c) j := by
    rw [after_of_writes_sub _ _ condOps_writes (by decide)]; exact bits_atK m c j
  have hv : after condOps (atK m 5000 c) (Proc.devRef .tc main_v3) (ix1 j) = scores m c j := by
    rw [after_of_writes_sub _ _ condOps_writes (by decide), v3_atK]; rfl
  generalize after condOps (atK m 5000 c) = X at hb hv ⊢
  after_reads_at
  refine (select_of_bit _ _ hb _ _).trans ?_
  rw [hv, zero_const]

end Cert.Proof.RefValue

end
-- ==== Proof.KernelHost.lean ====
/-
  The kernel's host operations around its region, over the extended reals: the two arrays the region reads are the sorted
  boxes with zeros past the last, and its three results follow from what the region leaves.
-/
module

public import proofs.«01_k».proof.Proof.Gen.KernelIdeal.Frame
public import proofs.«01_k».proof.Proof.Greedy
public import Idealize.ShloMosaic.Lib.StableHlo.ReadAt
public import Idealize.ShloMosaic.Lib.Pointwise
public import Idealize.ShloMosaic.Lib.WordCmp

@[expose] public section

set_option maxRecDepth 16384

noncomputable section

namespace Cert.Proof.KernelHost

open Cert.KernelIdeal Cert.KernelIdeal.Gen Cert.Proof.Greedy
open Idealize.ShloMosaic Idealize.ShloMosaic.TcCoe Idealize.ShloMosaic.StableHlo Idealize.SL.Sem
open Classical

variable (W : Valuation τ sig (Elt Ideal))

/-- The zero the `where`s select. -/
theorem zero_const : (id (constant (F := Ideal) S_ FTy.f32 0#32) ix0 : EReal) = 0 := by
  simp only [id]
  pointwise

/-- A selection by a bit that is one just where `p` holds. -/
theorem select_of_bit (p : Prop) (w : BitVec 1) (h : w = 1#1 ↔ p) (x y : EReal) : Scalar.select w x y = if p then x else y := by
  show (if w = 1#1 then x else y) = _
  by_cases hp : p
  · rw [if_pos hp, if_pos (h.2 hp)]
  · rw [if_neg hp, if_neg (fun e => hp (h.1 e))]

/-! ## Before the region -/

/-- The boxes as rows. -/
theorem rows_entry (n : Fin 5120) (k : Fin 4) : (after hostOps0_4 W (Proc.devRef .tc main_v5) (ix2 n k) : EReal)
    = box (fun i k => W (Proc.devRef .tc main_v2) (ix2 i k)) n k := by
  after_reads_at
  rfl

/-- The boxes as columns. -/
theorem cols_entry (k : Fin 4) (n : Fin 5120) : (after hostOps0_4 W (Proc.devRef .tc main_v6) (ix2 k n) : EReal)
    = box (fun i k => W (Proc.devRef .tc main_v2) (ix2 i k)) n k := by
  after_reads_at
  unfold box
  split
  · after_reads_at
  · after_reads_at

/-! ## After the region -/

/-- The half lies below one and not below zero. -/
theorem half_lt (p : Prop) : Ideal.ofBits FTy.f32 1056964608#32 < ind p ↔ p := by
  unfold ind
  have h : Ideal.ofBits FTy.f32 1056964608#32 = ((1 / 2 : ℝ) : EReal) := by
    simp [Ideal.ofBits, Ideal.ieee, -EReal.coe_mul]
    norm_num
  rw [h]
  by_cases hp : p
  · rw [if_pos hp]
    exact ⟨fun _ => hp, fun _ => by exact_mod_cast (by norm_num : (1 / 2 : ℝ) < 1)⟩
  · rw [if_neg hp]
    exact ⟨fun h' => absurd h' (not_lt.2 (by exact_mod_cast (by norm_num : (0 : ℝ) ≤ 1 / 2))), fun h' => absurd h' hp⟩

variable (p : Prop) (j : Fin 5000)

/-- The bits. -/
theorem bits_out (hv : (W (Proc.devRef .tc main_v7) (ix2 0 ⟨j, by omega⟩) : EReal) = ind p) :
    after hostOps1 W (Proc.devRef .tc main_v11) (ix1 j) = 1#1 ↔ p := by
  refine Iff.trans ?_ (half_lt p)
  rw [← hv]
  after_reads_at
  by_cases h : Ideal.ofBits FTy.f32 1056964608#32 < W (Proc.devRef .tc main_v7) (ix2 0 ⟨j, by omega⟩)
  · simp [h]
  · simp [h]

/-- The boxes. -/
theorem boxes_out (hv : (W (Proc.devRef .tc main_v7) (ix2 0 ⟨j, by omega⟩) : EReal) = ind p) (k : Fin 4) :
    (after hostOps1_1 (after hostOps1 W) (Proc.devRef .tc main_v13) (ix2 j k) : EReal)
      = if p then W (Proc.devRef .tc main_v2) (ix2 j k) else (0 : EReal) := by
  after_reads_at
  rw [hv, zero_const]
  exact if_congr (half_lt p) rfl rfl

/-- The scores. -/
theorem scores_out (hb : W (Proc.devRef .tc main_v11) (ix1 j) = 1#1 ↔ p) :
    (after hostOps1_3 (after hostOps1_2 W) (Proc.devRef .tc main_v14) (ix1 j) : EReal)
      = if p then W (Proc.devRef .tc main_v3) (ix1 j) else (0 : EReal) := by
  after_reads_at
  refine (select_of_bit _ _ hb _ _).trans ?_
  rw [zero_const]

end Cert.Proof.KernelHost

end
-- ==== Proof.Agree.lean ====
/-
  Over equal arguments the kernel's region is entered with the reference's sorted boxes and sorted scores.
-/
module

public import proofs.«01_k».proof.Proof.Sorted
public import proofs.«01_k».proof.Proof.RefValue
public import proofs.«01_k».proof.Proof.KernelHost

@[expose] public section

set_option maxRecDepth 16384

noncomputable section

namespace Cert.Proof.Agree

open Idealize.ShloMosaic Idealize.ShloMosaic.TcCoe Idealize.ShloMosaic.StableHlo Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's buffers once it has sorted the boxes. -/
def sortedK : Valuation Cert.KernelIdeal.τ Cert.KernelIdeal.sig (Elt Ideal) :=
  after Cert.KernelIdeal.Gen.hostOps0_3 (after Cert.KernelIdeal.Gen.hostOps0_2 (after Cert.KernelIdeal.Gen.hostOps0_1
    (after Cert.KernelIdeal.Gen.hostOps0 (fun b => m (c, b)))))

/-- The region is entered after the padding that follows. -/
theorem entry_eq : Cert.KernelIdeal.Gen.V0 m c = after Cert.KernelIdeal.Gen.hostOps0_4 (sortedK m c) := by
  unfold sortedK
  simp only [Cert.KernelIdeal.Gen.V0, List.flatten_cons, List.flatten_nil, List.append_nil, after_append]

section Kept

variable (U : Valuation Cert.KernelIdeal.τ Cert.KernelIdeal.sig (Elt Ideal))

theorem keep0_arg0 : after Cert.KernelIdeal.Gen.hostOps0 U (Proc.devRef .tc Cert.KernelIdeal.main_arg0) = U (Proc.devRef .tc Cert.KernelIdeal.main_arg0) := by after_reads_simp
theorem keep0_arg1 : after Cert.KernelIdeal.Gen.hostOps0 U (Proc.devRef .tc Cert.KernelIdeal.main_arg1) = U (Proc.devRef .tc Cert.KernelIdeal.main_arg1) := by after_reads_simp
theorem keep1_arg0 : after Cert.KernelIdeal.Gen.hostOps0_1 U (Proc.devRef .tc Cert.KernelIdeal.main_arg0) = U (Proc.devRef .tc Cert.KernelIdeal.main_arg0) := by after_reads_simp
theorem keep1_arg1 : after Cert.KernelIdeal.Gen.hostOps0_1 U (Proc.devRef .tc Cert.KernelIdeal.main_arg1) = U (Proc.devRef .tc Cert.KernelIdeal.main_arg1) := by after_reads_simp
theorem keep2_arg1 : after Cert.KernelIdeal.Gen.hostOps0_2 U (Proc.devRef .tc Cert.KernelIdeal.main_arg1) = U (Proc.devRef .tc Cert.KernelIdeal.main_arg1) := by after_reads_simp
theorem keep2_v1 : after Cert.KernelIdeal.Gen.hostOps0_2 U (Proc.devRef .tc Cert.KernelIdeal.main_v1) = U (Proc.devRef .tc Cert.KernelIdeal.main_v1) := by after_reads_simp
theorem keep3_v2 : after Cert.KernelIdeal.Gen.hostOps0_3 U (Proc.devRef .tc Cert.KernelIdeal.main_v2) = U (Proc.devRef .tc Cert.KernelIdeal.main_v2) := by after_reads_simp

end Kept

section KeptR

variable (U : Valuation Cert.ReferenceIdeal.τ Cert.ReferenceIdeal.sig (Elt Ideal))

theorem keepR0_arg0 : after Cert.ReferenceIdeal.Gen.hostOps0 U (Proc.devRef .tc Cert.ReferenceIdeal.main_arg0) = U (Proc.devRef .tc Cert.ReferenceIdeal.main_arg0) := by after_reads_simp
theorem keepR0_arg1 : after Cert.ReferenceIdeal.Gen.hostOps0 U (Proc.devRef .tc Cert.ReferenceIdeal.main_arg1) = U (Proc.devRef .tc Cert.ReferenceIdeal.main_arg1) := by after_reads_simp
theorem keepR1_arg0 : after Cert.ReferenceIdeal.Gen.hostOps0_1 U (Proc.devRef .tc Cert.ReferenceIdeal.main_arg0) = U (Proc.devRef .tc Cert.ReferenceIdeal.main_arg0) := by after_reads_simp
theorem keepR1_arg1 : after Cert.ReferenceIdeal.Gen.hostOps0_1 U (Proc.devRef .tc Cert.ReferenceIdeal.main_arg1) = U (Proc.devRef .tc Cert.ReferenceIdeal.main_arg1) := by after_reads_simp
theorem keepR2_arg1 : after Cert.ReferenceIdeal.Gen.hostOps0_2 U (Proc.devRef .tc Cert.ReferenceIdeal.main_arg1) = U (Proc.devRef .tc Cert.ReferenceIdeal.main_arg1) := by after_reads_simp
theorem keepR2_v1 : after Cert.ReferenceIdeal.Gen.hostOps0_2 U (Proc.devRef .tc Cert.ReferenceIdeal.main_v1) = U (Proc.devRef .tc Cert.ReferenceIdeal.main_v1) := by after_reads_simp
theorem keepR3_v2 : after Cert.ReferenceIdeal.Gen.hostOps0_3 U (Proc.devRef .tc Cert.ReferenceIdeal.main_v2) = U (Proc.devRef .tc Cert.ReferenceIdeal.main_v2) := by after_reads_simp

end KeptR

variable (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))

include h1 in
/-- The order of the boxes. -/
theorem order : after Cert.KernelIdeal.Gen.hostOps0_1 (after Cert.KernelIdeal.Gen.hostOps0 (fun b => m (c, b))) (Proc.devRef .tc Cert.KernelIdeal.main_v1)
    = after Cert.ReferenceIdeal.Gen.hostOps0_1 (after Cert.ReferenceIdeal.Gen.hostOps0 (fun b => m' (c, b))) (Proc.devRef .tc Cert.ReferenceIdeal.main_v1) :=
  Sorted.order_eq _ _ (Sorted.neg_eq _ _ h1.symm)

include h0 h1 in
/-- The sorted boxes. -/
theorem boxes_agree : (sortedK m c (Proc.devRef .tc Cert.KernelIdeal.main_v2) : FVec Ideal ⟨2, ![5000, 4]⟩ .f32)
    = RefValue.sorted m' c (Proc.devRef .tc Cert.ReferenceIdeal.main_v2) := by
  unfold sortedK RefValue.sorted
  rw [keep3_v2, keepR3_v2]
  exact Sorted.boxes_eq _ _ (order m m' c h1) (by
    rw [keep1_arg0, keep0_arg0, keepR1_arg0, keepR0_arg0]
    exact h0.symm)

include h1 in
/-- The sorted scores. -/
theorem scores_agree : (sortedK m c (Proc.devRef .tc Cert.KernelIdeal.main_v3) : FVec Ideal ⟨1, ![5000]⟩ .f32)
    = RefValue.sorted m' c (Proc.devRef .tc Cert.ReferenceIdeal.main_v3) := by
  unfold sortedK RefValue.sorted
  exact Sorted.scores_eq _ _ (by rw [keep2_v1, keepR2_v1]; exact order m m' c h1) (by
    rw [keep2_arg1, keep1_arg1, keep0_arg1, keepR2_arg1, keepR1_arg1, keepR0_arg1]
    exact h1.symm)

end Cert.Proof.Agree

end
-- ==== Proof.Values.lean ====
/-
  What the kernel's model computes over the extended reals: after its groups every lane of a block is one where the
  greedy selection keeps the box and zero elsewhere.
-/
module

public import proofs.«01_k».proof.Proof.Model
public import proofs.«01_k».proof.Proof.Greedy
public import Idealize.ShloMosaic.Lib.Pointwise
public import Idealize.ShloMosaic.Lib.WordCmp

@[expose] public section

set_option maxRecDepth 16384

noncomputable section

namespace Cert.Proof.Values

open Cert.KernelIdeal Cert.KernelIdeal.Gen Cert.Proof.Model Cert.Proof.Greedy
open Idealize.ShloMosaic Idealize.ShloMosaic.TcCoe Idealize.SL.Sem
open Classical

/-! ## A comparison of lane numbers, as a float -/

theorem float_gt (a b : ℕ) (ha : a < 2 ^ 31) (hb : b < 2 ^ 31) :
    (FloatOps.sitofp FTy.f32 (BitVec.setWidth 32 (IntOp.cmpi CmpIPredicate.sgt (BitVec.ofNat 32 a) (BitVec.ofNat 32 b))) : Ideal FTy.f32)
      = ind (b < a) := by
  rw [float_of_bit]
  exact ind_congr (WordCmp.cmpi_sgt_ofNat_eq_one_iff (by simpa using ha) (by simpa using hb))

/-! ## Each piece of the model on indicators -/

/-- A tile's entry. -/
theorem tileOf_ind (r : FVec Ideal S512x4 .f32) (c : FVec Ideal S4x512 .f32) (p q : Fin 512) :
    tileOf r c (ix2 p q) = ind (Hits (fun k => r (ix2 p k)) (fun k => c (ix2 k q))) := by
  pointwise [tileOf]
  rw [float_of_bit]
  refine ind_congr ?_
  rw [ori_eq_one, andi_eq_one, andi_eq_one, andi_eq_one]
  simp only [ofBool_eq_one]
  rfl

/-- One step of a group's own pass. -/
theorem solveStep_ind (K : ℕ → Prop) (D : ℕ → ℕ → Prop) (cs : FVec Ideal S16x16 .f32) (r : ℕ) (hr : r < 15) (ks : FVec Ideal S1x16 .f32)
    (hc : ∀ a b : Fin 16, cs (ix2 a b) = ind (D a b)) (hk : ∀ l : Fin 16, ks (ix2 0 l) = ind (K l)) (l : Fin 16) :
    solveStep cs r hr ks (ix2 0 l) = ind (K l ∧ ¬ (K r ∧ D r l ∧ r < l)) := by
  pointwise [solveStep, gt16]
  rw [float_gt _ _ (by omega) (by omega), hk, hk, hc, ind_mul, ind_mul, one_sub_ind, ind_mul]

/-- Whether a group is dirty. -/
theorem dirty_iff (D : ℕ → ℕ → Prop) (cs : FVec Ideal S16x16 .f32) (hc : ∀ a b : Fin 16, cs (ix2 a b) = ind (D a b)) :
    dirty cs = 1#1 ↔ ¬ ∀ a b : Fin 16, ¬ (D a b ∧ (a : ℕ) < b) := by
  have h : dirty cs = Scalar.cmpi CmpIPredicate.ne (Scalar.extui (BitVec.ofBool (decide (0 < ∑ a : Fin 16, ∑ b : Fin 16, ind (D a b ∧ (a : ℕ) < b)))) : BitVec 32) 0#32 := by
    pointwise [dirty]
    have hs : ∀ a b : Fin 16, cs (ix2 a b) * FloatOps.sitofp (F := Ideal) FTy.f32 (BitVec.setWidth 32 (IntOp.cmpi CmpIPredicate.sgt (BitVec.ofNat 32 ↑b) (BitVec.ofNat 32 ↑a)))
        = ind (D a b ∧ (a : ℕ) < b) := fun a b => by
      rw [float_gt _ _ (by omega) (by omega), hc, ind_mul]
    simp only [hs]
  rw [h, ← sum_sum_ind_pos]
  by_cases hp : 0 < ∑ a : Fin 16, ∑ b : Fin 16, ind (D a b ∧ (a : ℕ) < b)
  · simp only [hp, decide_true, iff_true]; decide
  · simp only [hp, decide_false, iff_false]; decide

/-- The float of "is zero". -/
theorem isZero_ind (v : FVec Ideal S1x512 .f32) (b : Fin 512) : isZero v (ix2 0 b) = ind (v (ix2 0 b) = 0) := by
  pointwise [isZero]
  rw [float_of_bit]
  exact ind_congr (ofBool_eq_one _)

theorem sq_at (cd : FVec Ideal S512x512 .f32) (s : ℕ) (hs : s < 32) (a b : Fin 16) :
    Model.sq cd s (ix2 a b) = cd (ix2 ⟨16 * s + a, by omega⟩ ⟨16 * s + b, by omega⟩) := by
  unfold Model.sq
  pointwise
  exact congrArg cd ((ix2_inj ..).2 ⟨Fin.ext (by simp [Nat.mod_eq_of_lt hs]), Fin.ext (by simp [Nat.mod_eq_of_lt hs])⟩)

theorem lanesOf_at (k : FVec Ideal S1x512 .f32) (s : ℕ) (hs : s < 32) (b : Fin 16) :
    lanesOf s k (ix2 0 b) = k (ix2 0 ⟨16 * s + b, by omega⟩) := by
  pointwise [lanesOf]
  exact congrArg k ((ix2_inj ..).2 ⟨rfl, Fin.ext (by simp [Nat.mod_eq_of_lt hs])⟩)

theorem band_ind (D : ℕ → ℕ → Prop) (cd : FVec Ideal S512x512 .f32) (hc : ∀ a b : Fin 512, cd (ix2 a b) = ind (D a b)) (s : ℕ) (hs : s < 32)
    (a : Fin 16) (b : Fin 512) : band (F := Ideal) cd s (ix2 a b) = ind (D (16 * s + a) b ∧ 16 * s + a < b) := by
  pointwise [band]
  have hadd : IntOp.addi (BitVec.ofNat 32 ↑a) (BitVec.ofNat 32 (16 * (s % 32))) = BitVec.ofNat 32 (16 * s + a) := by
    rw [Nat.mod_eq_of_lt hs]
    show BitVec.ofNat 32 ↑a + BitVec.ofNat 32 (16 * s) = _
    rw [← BitVec.ofNat_add, Nat.add_comm]
  rw [hadd, float_gt _ _ (by omega) (by omega), hc, ind_mul]
  simp only [Nat.mod_eq_of_lt hs]

/-! ## A group, a block -/

variable (C : ℕ → ℕ → Prop)

/-- The group's own pass, from what the boxes before the group leave. -/
theorem solveN_ind (a : ℕ) (cs : FVec Ideal S16x16 .f32) (ks : FVec Ideal S1x16 .f32)
    (hc : ∀ r l : Fin 16, cs (ix2 r l) = ind (C (a + r) (a + l))) (hk : ∀ l : Fin 16, ks (ix2 0 l) = ind (Free C a (a + l))) :
    ∀ (n : ℕ) (hn : n ≤ 15) (l : Fin 16), solveN cs ks n hn (ix2 0 l) = ind (Free C (a + n) (a + l))
  | 0, _, l => hk l
  | n + 1, hn, l => by
    show solveStep cs n hn (solveN cs ks n (Nat.le_of_succ_le hn)) (ix2 0 l) = _
    rw [solveStep_ind (fun l => Free C (a + n) (a + l)) (fun r l => C (a + r) (a + l)) cs n hn _ hc
      (solveN_ind a cs ks hc hk n (Nat.le_of_succ_le hn)) l]
    refine ind_congr ?_
    rw [← Nat.add_assoc, free_succ, free_of_le C (Nat.le_refl (a + n))]
    simp only [Nat.add_lt_add_iff_left]

/-- The conditional keeps what the selection keeps, whichever way it goes. -/
theorem group_ind (a : ℕ) (cs : FVec Ideal S16x16 .f32) (ks : FVec Ideal S1x16 .f32)
    (hc : ∀ r l : Fin 16, cs (ix2 r l) = ind (C (a + r) (a + l))) (hk : ∀ l : Fin 16, ks (ix2 0 l) = ind (Free C a (a + l)))
    (l : Fin 16) : group cs ks (ix2 0 l) = ind (Kept C (a + l)) := by
  have hd := dirty_iff (fun r l => C (a + r) (a + l)) cs hc
  unfold group
  by_cases h : dirty cs = 1#1
  · rw [if_pos h]
    exact (solveN_ind C a cs ks hc hk 15 (Nat.le_refl _) l).trans (ind_congr (free_of_le C (by omega)))
  · rw [if_neg h, hk]
    have hn : ∀ r l : Fin 16, ¬ (C (a + r) (a + l) ∧ (r : ℕ) < l) := by
      by_contra hh; exact h (hd.2 hh)
    refine ind_congr ?_
    rw [← free_of_le C (show a + (l : ℕ) ≤ a + 16 by omega), free_add]
    exact ⟨fun hf => ⟨hf, fun r ⟨_, hc', hl⟩ => hn r l ⟨hc', by omega⟩⟩, fun hf => hf.1⟩

/-- One group's step on a block that starts at box `o`. -/
theorem stepKeep_ind (o : ℕ) (cd : FVec Ideal S512x512 .f32) (hc : ∀ r p : Fin 512, cd (ix2 r p) = ind (C (o + r) (o + p)))
    (s : ℕ) (hs : s < 32) (keep : FVec Ideal S1x512 .f32) (hk : ∀ p : Fin 512, keep (ix2 0 p) = ind (Free C (o + 16 * s) (o + p)))
    (p : Fin 512) : stepKeep cd s keep (ix2 0 p) = ind (Free C (o + 16 * (s + 1)) (o + p)) := by
  have hg : ∀ l : Fin 16, group (Model.sq cd s) (lanesOf s keep) (ix2 0 l) = ind (Kept C (o + 16 * s + l)) := fun l =>
    group_ind C (o + 16 * s) _ _ (fun r l => by rw [sq_at cd s hs, hc]; simp only [Nat.add_assoc]) (fun l => by rw [lanesOf_at keep s hs, hk]; simp only [Nat.add_assoc]) l
  have hb : ∀ (l : Fin 16) (q : Fin 512), band (F := Ideal) cd s (ix2 l q) = ind (C (o + (16 * s + l)) (o + q) ∧ 16 * s + (l : ℕ) < q) :=
    band_ind (fun r p => C (o + r) (o + p)) cd hc s hs
  unfold stepKeep
  generalize hgk : group (F := Ideal) (Model.sq cd s) (lanesOf s keep) = g at hg
  generalize hbk : band (F := Ideal) cd s = b at hb
  pointwise
  rw [isZero_ind]
  pointwise
  simp only [hg, hb, hk, ind_mul, sum_ind_eq_zero]
  refine ind_congr ?_
  rw [show o + 16 * (s + 1) = o + 16 * s + 16 by omega, free_add C (o + 16 * s) 16]
  simp only [Nat.add_assoc, Nat.add_lt_add_iff_left]

/-! ## The blocks -/

variable (bx : ℕ → Fin 4 → EReal) (A : FVec Ideal S5120x4 .f32) (B : FVec Ideal S4x5120 .f32)
  (hA : ∀ (n : Fin 5120) (k : Fin 4), A (ix2 n k) = bx n k) (hB : ∀ (k : Fin 4) (n : Fin 5120), B (ix2 k n) = bx n k)

include hA hB

/-- Which of the numbered boxes suppresses which. -/
theorem tile_ind (j i : ℕ) (hj : j < 10) (hi : i < 10) (p q : Fin 512) :
    tile (F := Ideal) A B j i (ix2 p q) = ind (Hits (bx (512 * j + p)) (bx (512 * i + q))) := by
  unfold tile
  rw [tileOf_ind]
  refine congrArg₂ (fun a b => ind (Hits a b)) (funext fun k => ?_) (funext fun k => ?_)
  · pointwise
    rw [hA]; simp only [Nat.mod_eq_of_lt hj]
  · pointwise
    rw [hB]; simp only [Nat.mod_eq_of_lt hi]

theorem diag_ind (i : ℕ) (hi : i < 10) (p q : Fin 512) :
    diag (F := Ideal) A B i (ix2 p q) = ind (Hits (bx (512 * i + p)) (bx (512 * i + q))) := by
  have h := tile_ind bx A B hA hB i i hi hi p q
  unfold diag
  pointwise
  exact h

/-- The sum over the finished blocks is zero just where none of their kept boxes suppresses the box. -/
theorem supAt_zero (i : ℕ) (hi : i < 10) (prev : ℕ → FVec Ideal S1x512 .f32)
    (hp : ∀ j < i, ∀ q : Fin 512, prev j (ix2 0 q) = ind (Kept (fun a b => Hits (bx a) (bx b)) (512 * j + q))) (p : Fin 512) :
    ∀ n ≤ i, 0 ≤ supAt (F := Ideal) A B i prev n (ix2 0 p) ∧ (supAt (F := Ideal) A B i prev n (ix2 0 p) = 0 ↔ Free (fun a b => Hits (bx a) (bx b)) (512 * n) (512 * i + p))
  | 0, _ => by
    have h0 : supAt (F := Ideal) A B i prev 0 (ix2 0 p) = 0 := by
      show broadcast S1x512 (Scalar.ofBits (F := Ideal) .f32 0x00000000#32) (ix2 0 p) = 0
      pointwise
    rw [h0]
    exact ⟨le_refl _, iff_of_true rfl ((free_zero _ _).2 trivial)⟩
  | n + 1, hn => by
    obtain ⟨hnn, hz⟩ := supAt_zero i hi prev hp p n (by omega)
    have ht := tile_ind bx A B hA hB n i (by omega) hi
    have hpn := hp n (by omega)
    have hs : supAt (F := Ideal) A B i prev (n + 1) (ix2 0 p) = supAt A B i prev n (ix2 0 p)
        + ∑ q : Fin 512, ind (Kept (fun a b => Hits (bx a) (bx b)) (512 * n + q) ∧ Hits (bx (512 * n + q)) (bx (512 * i + p))) := by
      show addf (supAt A B i prev n) (matmul dot_S1x512_S512x512_S1x512_1_0_0_1_n_n none (prev n) (tile A B n i) (constant S1x512 .f32 0x00000000#32)) (ix2 0 p) = _
      generalize supAt (F := Ideal) A B i prev n = u
      generalize tile (F := Ideal) A B n i = t at ht ⊢
      generalize prev n = w at hpn ⊢
      pointwise
      simp only [hpn, ht, ind_mul]
    rw [hs]
    refine ⟨add_nonneg hnn (sum_ind_nonneg _), ?_⟩
    rw [add_eq_zero_nonneg hnn (sum_ind_nonneg _), hz, sum_ind_eq_zero, show 512 * (n + 1) = 512 * n + 512 by omega, free_add]
    refine and_congr_right fun _ => forall_congr' fun q => not_congr ?_
    exact ⟨fun ⟨a, b⟩ => ⟨a, b, by omega⟩, fun ⟨a, b, _⟩ => ⟨a, b⟩⟩

/-- A block after its first groups. -/
theorem keepAt_ind : ∀ (i : ℕ) (hi : i < 10) (s : ℕ) (hs : s ≤ 32) (p : Fin 512),
    keepAt (F := Ideal) A B i s (ix2 0 p) = ind (Free (fun a b => Hits (bx a) (bx b)) (512 * i + 16 * s) (512 * i + p)) := by
  intro i
  induction i using Nat.strong_induction_on with
  | _ i ih =>
    intro hi s
    induction s with
    | zero =>
      intro _ p
      rw [keepAt_zero, isZero_ind]
      refine ind_congr ?_
      refine (supAt_zero bx A B hA hB i hi _ (fun j hj q => ?_) p i (Nat.le_refl _)).2
      rw [ih j hj (by omega) 32 (Nat.le_refl _) q]
      exact ind_congr (free_of_le _ (by omega))
    | succ s ihs =>
      intro hs p
      rw [keepAt_succ]
      exact stepKeep_ind _ (512 * i) _ (diag_ind bx A B hA hB i hi) s (by omega) _ (ihs (by omega)) p

/-- A finished block: one where the selection keeps the box, zero elsewhere. -/
theorem keepAt_kept (i : ℕ) (hi : i < 10) (p : Fin 512) :
    keepAt (F := Ideal) A B i 32 (ix2 0 p) = ind (Kept (fun a b => Hits (bx a) (bx b)) (512 * i + p)) :=
  (keepAt_ind bx A B hA hB i hi 32 (Nat.le_refl _) p).trans (ind_congr (free_of_le _ (by omega)))

end Cert.Proof.Values

end
-- ==== Proof.Out.lean ====
/-
  The kernel's whole output over the extended reals: one at every box the greedy selection keeps, zero at the others.
-/
module

public import proofs.«01_k».proof.Proof.Values
public import Idealize.ShloMosaic.Lib.Pipeline.ValueKit

@[expose] public section

set_option maxRecDepth 16384

noncomputable section

namespace Cert.Proof.Values

open Cert.KernelIdeal Cert.KernelIdeal.Gen Cert.Proof.Model Cert.Proof.Greedy
open Idealize.ShloMosaic Idealize.ShloMosaic.TcCoe Idealize.SL.Sem
open Classical

variable (bx : ℕ → Fin 4 → EReal) (A : FVec Ideal S5120x4 .f32) (B : FVec Ideal S4x5120 .f32)
  (hA : ∀ (n : Fin 5120) (k : Fin 4), A (ix2 n k) = bx n k) (hB : ∀ (k : Fin 4) (n : Fin 5120), B (ix2 k n) = bx n k)

include hA hB

/-- Every store among the first `n ≤ 10` writes the indicator of the selection at its own columns. -/
theorem pieces_ind : ∀ n ≤ 10, ∀ p ∈ pieces (F := Ideal) A B n, ∀ x : p.1.shape.Idx,
    p.2 x = ind (Kept (fun a b => Hits (bx a) (bx b)) ((p.1.emb x) 1).val)
  | 0, _, p, hp, _ => absurd hp (List.not_mem_nil)
  | n + 1, hn, p, hp, x => by
    rcases List.mem_cons.1 hp with rfl | hp
    · have hx : x = ix2 0 (x 1) := by
        funext a
        match a with
        | ⟨0, _⟩ => exact Fin.ext (by have := (x 0).isLt; change (x 0).val < 1 at this; show (x 0).val = 0; omega)
        | ⟨1, _⟩ => rfl
      show keepAt (F := Ideal) A B n 32 x = _
      refine (congrArg (keepAt (F := Ideal) A B n 32) hx).trans ((keepAt_kept bx A B hA hB n (by omega) (x 1)).trans ?_)
      refine ind_congr (iff_of_eq (congrArg _ ?_))
      show 512 * n + (x 1).val = 512 * (n % 10) + 1 * (x 1).val
      rw [Nat.mod_eq_of_lt (by omega), one_mul]
    · exact pieces_ind n (by omega) p hp x

omit hA hB in
/-- The block a column lies in is among the stores. -/
theorem pieces_mem : ∀ n j : ℕ, j < n → ⟨rOut j, keepAt (F := Ideal) A B j 32⟩ ∈ pieces (F := Ideal) A B n
  | 0, _, h => absurd h (Nat.not_lt_zero _)
  | n + 1, j, h => by
    rcases Nat.lt_succ_iff_lt_or_eq.1 h with h | rfl
    · exact List.mem_cons_of_mem _ (pieces_mem n j h)
    · exact List.mem_cons_self

/-- The output at a column. -/
theorem outVal_kept (n : Fin 5120) : outVal (F := Ideal) A B (ix2 0 n) = ind (Kept (fun a b => Hits (bx a) (bx b)) n) := by
  refine View.canon_apply_of_pieces (fun y : S1x5120.Idx => ind (Kept (fun a b => Hits (bx a) (bx b)) (y 1).val))
    (pieces (F := Ideal) A B 10) (pieces_ind bx A B hA hB 10 (Nat.le_refl _)) (ix2 0 n)
    ⟨_, pieces_mem A B 10 (n.val / 512) (by have := n.isLt; omega), ?_⟩
  show ix2 (0 : Fin 1) n ∈ (rOut (n.val / 512)).set
  rw [Rect.mem_set_unit]
  intro a
  match a with
  | ⟨0, _⟩ => exact ⟨Nat.le_refl 0, Nat.zero_lt_one⟩
  | ⟨1, _⟩ =>
    have := n.isLt
    show 512 * (n.val / 512 % 10) ≤ n.val ∧ n.val < 512 * (n.val / 512 % 10) + 512
    omega

end Cert.Proof.Values

end
-- ==== Proof.KernelValue.lean ====
/-
  What the kernel leaves over the extended reals: the boxes the greedy selection keeps, their scores and the bits that keep
  them, whatever the proof data of its pipeline as long as the body leaves `outVal` of its two inputs.
-/
module

public import proofs.«01_k».proof.Proof.Agree
public import proofs.«01_k».proof.Proof.Out

@[expose] public section

set_option maxRecDepth 16384

noncomputable section

namespace Cert.Proof.KernelValue

open Cert.KernelIdeal Cert.KernelIdeal.Gen Cert.Proof.Model Cert.Proof.Greedy Cert.Proof.Agree
open Idealize.ShloMosaic Idealize.ShloMosaic.TcCoe Idealize.ShloMosaic.StableHlo Idealize.SL.Sem
open Idealize.SL.RA
open Idealize.ShloMosaic.Rounds
open Idealize.ShloMosaic.Pipeline (Dat Cfg Window)
open Classical

variable (m : (ℓ : Loc nD τ sig) → Buf (Elt Ideal) ℓ) (c : Dev nD)

/-- The sorted boxes. -/
def boxes (i : Fin 5000) (k : Fin 4) : EReal := sortedK m c (Proc.devRef .tc main_v2) (ix2 i k)

/-- The sorted scores. -/
def scores (i : Fin 5000) : EReal := sortedK m c (Proc.devRef .tc main_v3) (ix1 i)

/-- The one point's blocks begin at the arrays' first entries. -/
theorem idx : ∀ t : Fin cfg0.N, win0_0.index t = ![0, 0] ∧ win0_1.index t = ![0, 0] :=
  (by decide +kernel : ∀ t : Fin grid0.N, win0_0.index t = ![0, 0] ∧ win0_1.index t = ![0, 0])

/-- The rows the region reads. -/
theorem rows_blk (t : Fin cfg0.N) (n : Fin 5120) (k : Fin 4) : (iblk m c 0 t : FVec Ideal S5120x4 .f32) (ix2 n k) = box (boxes m c) n k := by
  rw [fin_N0 t]
  have h : (V m c main_v5 (ix2 n k) : EReal) = box (boxes m c) n k := by
    rw [V, entry_eq]; exact KernelHost.rows_entry (sortedK m c) n k
  rw [← h]
  blk_ext [iblk, idx t0_0]

/-- The columns. -/
theorem cols_blk (t : Fin cfg0.N) (k : Fin 4) (n : Fin 5120) : (iblk m c 1 t : FVec Ideal S4x5120 .f32) (ix2 k n) = box (boxes m c) n k := by
  rw [fin_N0 t]
  have h : (V m c main_v6 (ix2 k n) : EReal) = box (boxes m c) n k := by
    rw [V, entry_eq]; exact KernelHost.cols_entry (sortedK m c) k n
  rw [← h]
  blk_ext [iblk, idx t0_0]

variable (dats : (p : Fin 1) → (c : Dev nD) → Dat τ (Elt Ideal) Unit ℕ (UR sig nD τ) ℕ (cfgs p) c)
  (hafter : ∀ t : Fin cfg0.N, (dats 0 c).after 2 t = outVal (iblk m c 0 t) (iblk m c 1 t))

include hafter in
/-- The array the region writes. -/
theorem out_eq (n : Fin 5120) : ((dats 0 c).arrAt 2 cfg0.N : FVec Ideal S1x5120 .f32) (ix2 0 n) = ind (Kept (fun a b => Hits (box (boxes m c) a) (box (boxes m c) b)) n) := by
  have h : ((dats 0 c).arrAt 2 cfg0.N : FVec Ideal S1x5120 .f32) = outVal (F := Ideal) (iblk m c 0 t0_0) (iblk m c 1 t0_0) := by
    refine (dats 0 c).arrAt_eq_of_after_last 2 t0_0 (by decide +kernel) _ fun j => ?_
    blk_simp
    rw [hafter]
  rw [h]
  exact Values.outVal_kept (box (boxes m c)) _ _ (fun n k => rows_blk m c t0_0 n k) (fun k n => cols_blk m c t0_0 k n) n

/-- The buffers after the region. -/
abbrev atRegion : Valuation τ sig (Elt Ideal) := Pipeline.withArrays spec0 c (V0 m c) fun w => (dats 0 c).arrAt w cfg0.N

include hafter in
theorem region_v7 (j : Fin 5000) : (atRegion m c dats (Proc.devRef .tc main_v7) (ix2 0 ⟨j, by omega⟩) : EReal) = ind (Stays (boxes m c) j) := by
  have e : atRegion m c dats (Proc.devRef .tc main_v7) = (dats 0 c).arrAt 2 cfg0.N :=
    Pipeline.withArrays_arr spec0 launch0.win.arr_inj c _ _ 2
  rw [e]
  exact out_eq m c dats hafter ⟨j, by omega⟩

theorem region_v2 (j : Fin 5000) (k : Fin 4) : (atRegion m c dats (Proc.devRef .tc main_v2) (ix2 j k) : EReal) = boxes m c j k := by
  have e : atRegion m c dats (Proc.devRef .tc main_v2) = V0 m c (Proc.devRef .tc main_v2) :=
    Pipeline.withArrays_of_ne spec0 c _ _ main_v2 (by exact (by decide : ∀ w, Pipeline.arrRef spec0 w ≠ main_v2))
  rw [e, entry_eq]
  unfold boxes
  generalize sortedK m c = X
  after_reads_at

theorem region_v3 (j : Fin 5000) : (atRegion m c dats (Proc.devRef .tc main_v3) (ix1 j) : EReal) = scores m c j := by
  have e : atRegion m c dats (Proc.devRef .tc main_v3) = V0 m c (Proc.devRef .tc main_v3) :=
    Pipeline.withArrays_of_ne spec0 c _ _ main_v3 (by exact (by decide : ∀ w, Pipeline.arrRef spec0 w ≠ main_v3))
  rw [e, entry_eq]
  unfold scores
  generalize sortedK m c = X
  after_reads_at

/-- What the buffers hold at the end. -/
abbrev atEnd (b : Ref sig .tc) : Buf (Elt Ideal) ((c.tc : Thread nD τ).loc b) :=
  Pipeline.afterTail₀ cfgs dats 0 (V0 m) [hostOps1, hostOps1_1, hostOps1_2, hostOps1_3] c b

theorem atEnd_eq (b : Ref sig .tc) : atEnd m c dats b = after hostOps1_3 (after hostOps1_2 (after hostOps1_1 (after hostOps1 (atRegion m c dats)))) (Proc.devRef .tc b) := by
  unfold atEnd Pipeline.afterTail₀
  simp only [List.flatten_cons, List.flatten_nil, List.append_nil, after_append]

section Kept

variable (U : Valuation τ sig (Elt Ideal))

theorem keep_v11_1 : after hostOps1_1 U (Proc.devRef .tc main_v11) = U (Proc.devRef .tc main_v11) := by after_reads_simp
theorem keep_v11_23 : after hostOps1_3 (after hostOps1_2 U) (Proc.devRef .tc main_v11) = U (Proc.devRef .tc main_v11) := by after_reads_simp
theorem keep_v13_23 : after hostOps1_3 (after hostOps1_2 U) (Proc.devRef .tc main_v13) = U (Proc.devRef .tc main_v13) := by after_reads_simp
theorem keep_v3_01 : after hostOps1_1 (after hostOps1 U) (Proc.devRef .tc main_v3) = U (Proc.devRef .tc main_v3) := by after_reads_simp

end Kept

include hafter

/-- The bits. -/
theorem bits_end (j : Fin 5000) : atEnd m c dats main_v11 (ix1 j) = 1#1 ↔ Stays (boxes m c) j := by
  rw [atEnd_eq, keep_v11_23, keep_v11_1]
  exact KernelHost.bits_out _ _ j (region_v7 m c dats hafter j)

/-- The boxes. -/
theorem boxes_end (j : Fin 5000) (k : Fin 4) :
    (atEnd m c dats main_v13 (ix2 j k) : EReal) = if Stays (boxes m c) j then boxes m c j k else 0 := by
  rw [atEnd_eq, keep_v13_23]
  refine (KernelHost.boxes_out _ _ j (region_v7 m c dats hafter j) k).trans ?_
  rw [region_v2]

/-- The scores. -/
theorem scores_end (j : Fin 5000) :
    (atEnd m c dats main_v14 (ix1 j) : EReal) = if Stays (boxes m c) j then scores m c j else 0 := by
  rw [atEnd_eq]
  refine (KernelHost.scores_out _ (Stays (boxes m c) j) j ?_).trans ?_
  · rw [keep_v11_1]
    exact KernelHost.bits_out _ _ j (region_v7 m c dats hafter j)
  · rw [keep_v3_01, region_v3]

end Cert.Proof.KernelValue

end
-- ==== Proof.Equal.lean ====
/-
  The kernel's three results and the reference's are the same extended reals and the same bits.
-/
module

public import proofs.«01_k».proof.Proof.KernelValue

@[expose] public section

set_option maxRecDepth 16384

noncomputable section

namespace Cert.Proof.Equal

open Cert.Proof.Greedy
open Idealize.ShloMosaic Idealize.ShloMosaic.TcCoe Idealize.SL.Sem Idealize.SL.RA
open Idealize.ShloMosaic.Rounds
open Cert.KernelIdeal.Gen (iblk)
open Cert.KernelIdeal (cfgs cfg0)
open Idealize.ShloMosaic.Pipeline (Dat)
open Classical

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  (dats : (p : Fin 1) → (c : Dev Cert.KernelIdeal.nD) → Dat Cert.KernelIdeal.τ (Elt Ideal) Unit ℕ (UR Cert.KernelIdeal.sig Cert.KernelIdeal.nD Cert.KernelIdeal.τ) ℕ (cfgs p) c)
  (hafter : ∀ t : Fin cfg0.N, (dats 0 c).after 2 t = Model.outVal (iblk m c 0 t) (iblk m c 1 t))
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))

include h0 h1 in
theorem boxes_same : KernelValue.boxes m c = RefValue.boxes m' c :=
  funext fun i => funext fun k => congrFun (Agree.boxes_agree m m' c h0 h1) (ix2 i k)

include h1 in
theorem scores_same : KernelValue.scores m c = RefValue.scores m' c :=
  funext fun i => congrFun (Agree.scores_agree m m' c h1) (ix1 i)

include hafter h0 h1

/-- The boxes. -/
theorem boxes_eq : (KernelValue.atEnd m c dats Cert.KernelIdeal.main_v13 : FVec Ideal Cert.KernelIdeal.S5000x4 .f32)
    = RefRun.atEnd m' c (Proc.devRef .tc Cert.ReferenceIdeal.main_v92) := by
  funext x
  obtain ⟨j, k, rfl⟩ : ∃ (j : Fin 5000) (k : Fin 4), x = ix2 j k := ⟨x 0, x 1, eq_ix2 x⟩
  refine (KernelValue.boxes_end m c dats hafter j k).trans ?_
  rw [boxes_same m m' c h0 h1]
  exact (RefValue.boxes_end m' c j k).symm

/-- The scores. -/
theorem scores_eq : (KernelValue.atEnd m c dats Cert.KernelIdeal.main_v14 : FVec Ideal Cert.KernelIdeal.S5000 .f32)
    = RefRun.atEnd m' c (Proc.devRef .tc Cert.ReferenceIdeal.main_v93) := by
  funext x
  obtain ⟨j, rfl⟩ : ∃ j : Fin 5000, x = ix1 j := ⟨x 0, eq_ix1 x⟩
  refine (KernelValue.scores_end m c dats hafter j).trans ?_
  rw [boxes_same m m' c h0 h1, scores_same m m' c h1]
  exact (RefValue.scores_end m' c j).symm

/-- The bits. -/
theorem bits_eq : (KernelValue.atEnd m c dats Cert.KernelIdeal.main_v11 : IVec Cert.KernelIdeal.S5000 1)
    = RefRun.atEnd m' c (Proc.devRef .tc Cert.ReferenceIdeal.main_v90_4) := by
  funext x
  obtain ⟨j, rfl⟩ : ∃ j : Fin 5000, x = ix1 j := ⟨x 0, eq_ix1 x⟩
  refine bit_ext (KernelValue.bits_end m c dats hafter j) ?_
  rw [boxes_same m m' c h0 h1]
  exact RefValue.bits_end m' c j

end Cert.Proof.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.SL.Sem

/-- The kernel's run, its results named as the value modules name them. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v13) = KernelValue.atEnd m c (Run.dats m) Cert.KernelIdeal.main_v13
      ∧ r.2.mem ((c.tc : Thread Cert.KernelIdeal.nD Cert.KernelIdeal.τ).loc Cert.KernelIdeal.main_v14) = KernelValue.atEnd m c (Run.dats m) Cert.KernelIdeal.main_v14
      ∧ r.2.mem ((c.tc : Thread Cert.KernelIdeal.nD Cert.KernelIdeal.τ).loc Cert.KernelIdeal.main_v11) = KernelValue.atEnd m c (Run.dats m) Cert.KernelIdeal.main_v11
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨(h c).2 Cert.KernelIdeal.main_v13 (Pipeline.mem_restRefs_of Cert.KernelIdeal.main_v13 (by decide) (by decide)),
      (h c).2 Cert.KernelIdeal.main_v14 (Pipeline.mem_restRefs_of Cert.KernelIdeal.main_v14 (by decide) (by decide)),
      (h c).2 Cert.KernelIdeal.main_v11 (Pipeline.mem_restRefs_of Cert.KernelIdeal.main_v11 (by decide) (by decide)),
      ((h c).2 Cert.KernelIdeal.main_arg0 (Pipeline.mem_restRefs_of Cert.KernelIdeal.main_arg0 (by decide) (by decide))).trans (Cert.KernelIdeal.Gen.W_main_arg0 m (Run.dats m) c),
      ((h c).2 Cert.KernelIdeal.main_arg1 (Pipeline.mem_restRefs_of Cert.KernelIdeal.main_arg1 (by decide) (by decide))).trans (Cert.KernelIdeal.Gen.W_main_arg1 m (Run.dats m) c)⟩)
    (Run.run_main m ρ)

theorem claim : Cert.Claim := ⟨Cert.Kernel.Gen.facts, Cert.KernelIdeal.Gen.facts, Cert.ReferenceIdeal.Gen.facts,
  Same.frame_of fun m ρ => Run.frame (F := Bits) m ρ,
  fun m ρ _ => Run.frame (F := Ideal) m ρ,
  fun m ρ _ => RefRun.frame (F := Ideal) m ρ,
  trivial,
  fun m ρ m' ρ' _ hargs =>
    ⟨fun c => KernelValue.atEnd m c (Run.dats m) Cert.KernelIdeal.main_v13, fun c => KernelValue.atEnd m c (Run.dats m) Cert.KernelIdeal.main_v14,
      fun c => KernelValue.atEnd m c (Run.dats m) Cert.KernelIdeal.main_v11, kernel_run m ρ,
      (θ_run (Cert.ReferenceIdeal.defs (F := Ideal)) _ _).mono (fun _ h c =>
        ⟨(h.1 c Cert.ReferenceIdeal.main_v92 rfl).trans (Equal.boxes_eq m m' c (Run.dats m) (Run.after0_2 m c) (hargs c).1 (hargs c).2).symm,
          (h.1 c Cert.ReferenceIdeal.main_v93 rfl).trans (Equal.scores_eq m m' c (Run.dats m) (Run.after0_2 m c) (hargs c).1 (hargs c).2).symm,
          (h.1 c Cert.ReferenceIdeal.main_v90_4 rfl).trans (Equal.bits_eq m m' c (Run.dats m) (Run.after0_2 m c) (hargs c).1 (hargs c).2).symm,
          (h.1 c Cert.ReferenceIdeal.main_arg0 rfl).trans (RefRun.atEnd_arg0 m' c),
          (h.1 c Cert.ReferenceIdeal.main_arg1 rfl).trans (RefRun.atEnd_arg1 m' c)⟩)
        (RefRun.run m' ρ')⟩⟩

end Cert.Proof

end
